-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_queries_and_keys [hPre_finite_queries_and_keys : Cert.Pre_finite_queries_and_keys.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_queries_and_keys.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_queries_and_keys [hPre_finite_queries_and_keys : Cert.Pre_finite_queries_and_keys.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_queries_and_keys.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_queries_and_keys5 [hPre_finite_queries_and_keys5 : Cert.Pre_finite_queries_and_keys5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_queries_and_keys5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_queries_and_keys5 [hPre_finite_queries_and_keys5 : Cert.Pre_finite_queries_and_keys5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_queries_and_keys5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_queries_and_keys [hKernel2Ideal : Cert.Kernel2Ideal.Facts] [hPre_finite_queries_and_keys : Cert.Pre_finite_queries_and_keys.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_queries_and_keys m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_queries_and_keys [hReference2Ideal : Cert.Reference2Ideal.Facts] [hPre_finite_queries_and_keys : Cert.Pre_finite_queries_and_keys.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_queries_and_keys m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_queries_and_keys5 [hKernel5Ideal : Cert.Kernel5Ideal.Facts] [hPre_finite_queries_and_keys5 : Cert.Pre_finite_queries_and_keys5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_queries_and_keys5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_queries_and_keys5 [hReference5Ideal : Cert.Reference5Ideal.Facts] [hPre_finite_queries_and_keys5 : Cert.Pre_finite_queries_and_keys5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_queries_and_keys5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal_pre_finite_queries_and_keys [hKernel2Ideal : Cert.Kernel2Ideal.Facts] [hReference2Ideal : Cert.Reference2Ideal.Facts] [hPre_finite_queries_and_keys : Cert.Pre_finite_queries_and_keys.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_queries_and_keys m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_v20) = v2 c
          ∧ r.2.mem ((c.tc : Thread Cert.Reference3Ideal.nD Cert.Reference3Ideal.τ).loc Cert.Reference3Ideal.main_v21) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v18_0)) (v1 : (c : Dev Cert.Kernel4Ideal.nD) → Buf (Elt Ideal) ((c.tc : Thread Cert.Kernel4Ideal.nD Cert.Kernel4Ideal.τ).loc Cert.Kernel4Ideal.main_v18_1)) (v2 : (c : Dev Cert.Kernel4Ideal.nD) → Buf (Elt Ideal) ((c.tc : Thread Cert.Kernel4Ideal.nD Cert.Kernel4Ideal.τ).loc Cert.Kernel4Ideal.main_v18_2)) (v3 : (c : Dev Cert.Kernel4Ideal.nD) → Buf (Elt Ideal) ((c.tc : Thread Cert.Kernel4Ideal.nD Cert.Kernel4Ideal.τ).loc Cert.Kernel4Ideal.main_v18_3)) (v4 : (c : Dev Cert.Kernel4Ideal.nD) → Buf (Elt Ideal) ((c.tc : Thread Cert.Kernel4Ideal.nD Cert.Kernel4Ideal.τ).loc Cert.Kernel4Ideal.main_v18_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18_0) = v0 c
          ∧ r.2.mem ((c.tc : Thread Cert.Kernel4Ideal.nD Cert.Kernel4Ideal.τ).loc Cert.Kernel4Ideal.main_v18_1) = v1 c
          ∧ r.2.mem ((c.tc : Thread Cert.Kernel4Ideal.nD Cert.Kernel4Ideal.τ).loc Cert.Kernel4Ideal.main_v18_2) = v2 c
          ∧ r.2.mem ((c.tc : Thread Cert.Kernel4Ideal.nD Cert.Kernel4Ideal.τ).loc Cert.Kernel4Ideal.main_v18_3) = v3 c
          ∧ r.2.mem ((c.tc : Thread Cert.Kernel4Ideal.nD Cert.Kernel4Ideal.τ).loc Cert.Kernel4Ideal.main_v18_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v82) = v1 c
          ∧ r.2.mem ((c.tc : Thread Cert.Reference4Ideal.nD Cert.Reference4Ideal.τ).loc Cert.Reference4Ideal.main_v83) = v2 c
          ∧ r.2.mem ((c.tc : Thread Cert.Reference4Ideal.nD Cert.Reference4Ideal.τ).loc Cert.Reference4Ideal.main_v84) = v3 c
          ∧ r.2.mem ((c.tc : Thread Cert.Reference4Ideal.nD Cert.Reference4Ideal.τ).loc Cert.Reference4Ideal.main_v85) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_queries_and_keys5 [hKernel5Ideal : Cert.Kernel5Ideal.Facts] [hReference5Ideal : Cert.Reference5Ideal.Facts] [hPre_finite_queries_and_keys5 : Cert.Pre_finite_queries_and_keys5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_queries_and_keys5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hPre_finite_queries_and_keys : Cert.Pre_finite_queries_and_keys.Facts) (hPre_finite_queries_and_keys5 : Cert.Pre_finite_queries_and_keys5.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Kernel2Ideal_pre_finite_queries_and_keys (hKernel2Ideal := hKernel2Ideal) (hPre_finite_queries_and_keys := hPre_finite_queries_and_keys)
    ∧ quiescent_Reference2Ideal (hReference2Ideal := hReference2Ideal)
    ∧ quiescent_Reference2Ideal_pre_finite_queries_and_keys (hReference2Ideal := hReference2Ideal) (hPre_finite_queries_and_keys := hPre_finite_queries_and_keys)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_queries_and_keys5 (hKernel5Ideal := hKernel5Ideal) (hPre_finite_queries_and_keys5 := hPre_finite_queries_and_keys5)
    ∧ quiescent_Reference5Ideal (hReference5Ideal := hReference5Ideal)
    ∧ quiescent_Reference5Ideal_pre_finite_queries_and_keys5 (hReference5Ideal := hReference5Ideal) (hPre_finite_queries_and_keys5 := hPre_finite_queries_and_keys5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ preserves_Kernel_KernelIdeal
    ∧ preserves_Kernel2_Kernel2Ideal
    ∧ algebraic_Kernel2Ideal_Reference2Ideal_pre_finite_queries_and_keys (hKernel2Ideal := hKernel2Ideal) (hReference2Ideal := hReference2Ideal) (hPre_finite_queries_and_keys := hPre_finite_queries_and_keys)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_queries_and_keys5 (hKernel5Ideal := hKernel5Ideal) (hReference5Ideal := hReference5Ideal) (hPre_finite_queries_and_keys5 := hPre_finite_queries_and_keys5)
    ∧ preserves_Kernel6_Kernel6Ideal
    ∧ algebraic_Kernel6Ideal_Reference6Ideal (hKernel6Ideal := hKernel6Ideal) (hReference6Ideal := hReference6Ideal)
    ∧ preserves_Kernel7_Kernel7Ideal
-- ==== Pre_finite_queries_and_keys.lean ====
abbrev S8x4096x768 : Shape := ⟨3, ![8, 4096, 768]⟩
abbrev S8x4096x1024 : Shape := ⟨3, ![8, 4096, 1024]⟩
abbrev S8x4096x256 : Shape := ⟨3, ![8, 4096, 256]⟩
abbrev S8x256x512 : Shape := ⟨3, ![8, 256, 512]⟩
abbrev S1024x1024 : Shape := ⟨2, ![1024, 1024]⟩
abbrev S1024 : Shape := ⟨1, ![1024]⟩
abbrev S8x256x256 : Shape := ⟨3, ![8, 256, 256]⟩
abbrev S_ : Shape := ⟨0, ![]⟩

class Facts : Prop where
  bitsLt_bf16_f32 : FTy.bits .bf16 < FTy.bits .f32
  slices_S8x256x512_S8x256x256_0_0_0 : S8x256x512.Slices ![0, 0, 0] S8x256x256
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_

variable [Facts]

def fn {F : FTy → Type} [FloatOps F] (main_arg0 : FVec F S8x4096x768 .bf16) (main_arg1 : FVec F S8x4096x1024 .bf16) (main_arg2 : FVec F S8x4096x256 .bf16) (main_arg3 : FVec F S8x256x512 .bf16) (main_arg4 : FVec F S8x4096x1024 .f32) (main_arg5 : FVec F S1024x1024 .f32) (main_arg6 : FVec F S1024 .f32) : IVec S_ 1 :=
  let main_v0 : FVec F S8x4096x256 .f32 := (extf .f32 · bitsLt_bf16_f32) main_arg2
  let main_v1 : FVec F S8x256x256 .bf16 := (extractStridedSlice S8x256x256 ![0, 0, 0] · slices_S8x256x512_S8x256x256_0_0_0) main_arg3
  let main_v2 : FVec F S8x256x256 .f32 := (extf .f32 · bitsLt_bf16_f32) main_v1
  let main_v3 : FVec F S8x4096x256 .f32 := Host.absf main_v0
  let main_cst : FVec F S_ .f32 := constant S_ .f32 0x7F800000#32
  let main_v4 : FVec F S8x4096x256 .f32 := broadcastInDim S8x4096x256 ![] bcast_S_S8x4096x256 main_cst
  let main_v5 : IVec S8x4096x256 1 := cmpf .olt main_v3 main_v4
  let main_c : IVec S_ 1 := constantI S_ 1 1#1
  let main_v6 : IVec S_ 1 := (fun x v => Host.reduce IntOp.andi x v reducesTo_S8x4096x256_S_d0_1_2 h_S_) main_v5 main_c
  let main_v7 : FVec F S8x256x256 .f32 := Host.absf main_v2
  let main_cst_0 : FVec F S_ .f32 := constant S_ .f32 0x7F800000#32
  let main_v8 : FVec F S8x256x256 .f32 := broadcastInDim S8x256x256 ![] bcast_S_S8x256x256 main_cst_0
  let main_v9 : IVec S8x256x256 1 := cmpf .olt main_v7 main_v8
  let main_c_1 : IVec S_ 1 := constantI S_ 1 1#1
  let main_v10 : IVec S_ 1 := (fun x v => Host.reduce IntOp.andi x v reducesTo_S8x256x256_S_d0_1_2 h_S_) main_v9 main_c_1
  let main_v11 : IVec S_ 1 := andi main_v6 main_v10
  main_v11
-- ==== Pre_finite_queries_and_keys5.lean ====
abbrev S8x4096x768 : Shape := ⟨3, ![8, 4096, 768]⟩
abbrev S8x4096x1024 : Shape := ⟨3, ![8, 4096, 1024]⟩
abbrev S8x4096x256 : Shape := ⟨3, ![8, 4096, 256]⟩
abbrev S8x256x512 : Shape := ⟨3, ![8, 256, 512]⟩
abbrev S1024x1024 : Shape := ⟨2, ![1024, 1024]⟩
abbrev S64 : Shape := ⟨1, ![64]⟩
abbrev S8x256x256 : Shape := ⟨3, ![8, 256, 256]⟩
abbrev S_ : Shape := ⟨0, ![]⟩

class Facts : Prop where
  bitsLt_bf16_f32 : FTy.bits .bf16 < FTy.bits .f32
  slices_S8x256x512_S8x256x256_0_0_0 : S8x256x512.Slices ![0, 0, 0] S8x256x256
  bcast_S_S8x4096x256 : S_.BroadcastsInDim S8x4096x256 (![] : Fin 0 → Fin S8x4096x256.rank)
  reducesTo_S8x4096x256_S_d0_1_2 : S8x4096x256.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_

variable [Facts]

def fn {F : FTy → Type} [FloatOps F] (main_arg0 : FVec F S8x4096x768 .bf16) (main_arg1 : FVec F S8x4096x1024 .bf16) (main_arg2 : FVec F S8x4096x256 .bf16) (main_arg3 : FVec F S8x256x512 .bf16) (main_arg4 : FVec F S8x4096x1024 .f32) (main_arg5 : FVec F S1024x1024 .f32) (main_arg6 : FVec F S64 .f32) : IVec S_ 1 :=
  let main_v0 : FVec F S8x4096x256 .f32 := (extf .f32 · bitsLt_bf16_f32) main_arg2
  let main_v1 : FVec F S8x256x256 .bf16 := (extractStridedSlice S8x256x256 ![0, 0, 0] · slices_S8x256x512_S8x256x256_0_0_0) main_arg3
  let main_v2 : FVec F S8x256x256 .f32 := (extf .f32 · bitsLt_bf16_f32) main_v1
  let main_v3 : FVec F S8x4096x256 .f32 := Host.absf main_v0
  let main_cst : FVec F S_ .f32 := constant S_ .f32 0x7F800000#32
  let main_v4 : FVec F S8x4096x256 .f32 := broadcastInDim S8x4096x256 ![] bcast_S_S8x4096x256 main_cst
  let main_v5 : IVec S8x4096x256 1 := cmpf .olt main_v3 main_v4
  let main_c : IVec S_ 1 := constantI S_ 1 1#1
  let main_v6 : IVec S_ 1 := (fun x v => Host.reduce IntOp.andi x v reducesTo_S8x4096x256_S_d0_1_2 h_S_) main_v5 main_c
  let main_v7 : FVec F S8x256x256 .f32 := Host.absf main_v2
  let main_cst_0 : FVec F S_ .f32 := constant S_ .f32 0x7F800000#32
  let main_v8 : FVec F S8x256x256 .f32 := broadcastInDim S8x256x256 ![] bcast_S_S8x256x256 main_cst_0
  let main_v9 : IVec S8x256x256 1 := cmpf .olt main_v7 main_v8
  let main_c_1 : IVec S_ 1 := constantI S_ 1 1#1
  let main_v10 : IVec S_ 1 := (fun x v => Host.reduce IntOp.andi x v reducesTo_S8x256x256_S_d0_1_2 h_S_) main_v9 main_c_1
  let main_v11 : IVec S_ 1 := andi main_v6 main_v10
  main_v11
-- ==== Kernel.lean ====
abbrev S8x4096x768 : Shape := ⟨3, ![8, 4096, 768]⟩
abbrev S1x4096x256 : Shape := ⟨3, ![1, 4096, 256]⟩
abbrev S1x512x256 : Shape := ⟨3, ![1, 512, 256]⟩
abbrev S2x4096x256 : Shape := ⟨3, ![2, 4096, 256]⟩
abbrev S4x80x4096 : Shape := ⟨3, ![4, 80, 4096]⟩
abbrev S2x16x128 : Shape := ⟨3, ![2, 16, 128]⟩
abbrev S4x256x4096 : Shape := ⟨3, ![4, 256, 4096]⟩
abbrev S4x512x512 : Shape := ⟨3, ![4, 512, 512]⟩
abbrev S1x128 : Shape := ⟨2, ![1, 128]⟩
abbrev S256x128 : Shape := ⟨2, ![256, 128]⟩
abbrev S16x128 : Shape := ⟨2, ![16, 128]⟩
abbrev S1x256x128 : Shape := ⟨3, ![1, 256, 128]⟩
abbrev S128x128 : Shape := ⟨2, ![128, 128]⟩
abbrev S64x128 : Shape := ⟨2, ![64, 128]⟩
abbrev S1x64x128 : Shape := ⟨3, ![1, 64, 128]⟩
abbrev S1x16x128 : Shape := ⟨3, ![1, 16, 128]⟩
abbrev S128 : Shape := ⟨1, ![128]⟩
abbrev S1x1x128 : Shape := ⟨3, ![1, 1, 128]⟩
abbrev S96x128 : Shape := ⟨2, ![96, 128]⟩
abbrev S16x512 : Shape := ⟨2, ![16, 512]⟩
abbrev S128x512 : Shape := ⟨2, ![128, 512]⟩
abbrev S112x512 : Shape := ⟨2, ![112, 512]⟩
abbrev S1x512x128 : Shape := ⟨3, ![1, 512, 128]⟩
abbrev S512x128 : Shape := ⟨2, ![512, 128]⟩
abbrev S96x512 : Shape := ⟨2, ![96, 512]⟩
abbrev S512 : Shape := ⟨1, ![512]⟩
abbrev S1x512 : Shape := ⟨2, ![1, 512]⟩
abbrev S1x128x512 : Shape := ⟨3, ![1, 128, 512]⟩
abbrev S1x16x512 : Shape := ⟨3, ![1, 16, 512]⟩
abbrev S1x112x512 : Shape := ⟨3, ![1, 112, 512]⟩
abbrev S1x256x512 : Shape := ⟨3, ![1, 256, 512]⟩
abbrev S256x512 : Shape := ⟨2, ![256, 512]⟩
abbrev S256x256 : Shape := ⟨2, ![256, 256]⟩
abbrev S80x512 : Shape := ⟨2, ![80, 512]⟩
abbrev S512x256 : Shape := ⟨2, ![512, 256]⟩
abbrev S512x512 : Shape := ⟨2, ![512, 512]⟩
abbrev S1x512x512 : Shape := ⟨3, ![1, 512, 512]⟩
abbrev S1x80x512 : Shape := ⟨3, ![1, 80, 512]⟩
abbrev S64x512 : Shape := ⟨2, ![64, 512]⟩

abbrev nBuf : Space → Nat
  | .hbm => 4
  | .vmem => 14
  | .smem => 0
  | _ => 0

abbrev bufTy : (tb : Table) → Fin (tcTables nBuf tb) → BufTy
  | .hbm, ⟨0, _⟩ => ⟨S8x4096x768, .bf16⟩
  | .hbm, ⟨1, _⟩ => ⟨S8x4096x768, .bf16⟩
  | .hbm, ⟨2, _⟩ => ⟨S8x4096x768, .bf16⟩
  | .hbm, ⟨3, _⟩ => ⟨S8x4096x768, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x512x256, .bf16⟩
  | .local _ .vmem, ⟨7, _⟩ => ⟨S1x512x256, .bf16⟩
  | .local _ .vmem, ⟨8, _⟩ => ⟨S2x4096x256, .bf16⟩
  | .local _ .vmem, ⟨9, _⟩ => ⟨S4x80x4096, .bf16⟩
  | .local _ .vmem, ⟨10, _⟩ => ⟨S2x16x128, .f32⟩
  | .local _ .vmem, ⟨11, _⟩ => ⟨S4x256x4096, .bf16⟩
  | .local _ .vmem, ⟨12, _⟩ => ⟨S4x512x512, .f32⟩
  | .local _ .vmem, ⟨13, _⟩ => ⟨S4x512x512, .f32⟩
  | _, _ => ⟨S8x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 3, 8], ![false, false, false]⟩

def k0_cond1 (i : grid0.Coords) : BitVec 1 :=
  let arg2 : BitVec 32 := BitVec.ofNat 32 (i 2).val
  let c0_i32_1 : BitVec 32 := 0#32
  let v13 : BitVec 1 := Scalar.cmpi .eq arg2 c0_i32_1
  let v14 : BitVec 32 := Scalar.extui v13
  let c0_i32_2 : BitVec 32 := 0#32
  let v15 : BitVec 1 := Scalar.cmpi .ne v14 c0_i32_2
  v15

@[reducible] def k0_t1_loop : Scf.Loop 32 :=
  let c0_i32_86 : BitVec 32 := 0#32
  let c16_i32 : BitVec 32 := 16#32
  let v209 : BitVec 32 := Scalar.addi c0_i32_86 c16_i32
  let c1_i32_87 : BitVec 32 := 1#32
  ⟨c0_i32_86, v209, c1_i32_87⟩
def k0_mult1 (k0_t1 : Fin k0_t1_loop.trips) : BitVec 32 :=
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  v266
def k0_off1 (k0_t1 : Fin k0_t1_loop.trips) : Fin 3 → Nat :=
  let c0_107 : Index := 0#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v273 : Index := Scalar.indexCast v267
  let c0_108 : Index := 0#32
  ![0, v273.toNat, 0]
def k0_off2 (k0_t1 : Fin k0_t1_loop.trips) : Fin 3 → Nat :=
  let c0_111 : Index := 0#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v280 : Index := Scalar.indexCast v267
  let c0_112 : Index := 0#32
  ![0, v280.toNat, 0]
def k0_off3 (k0_t1 : Fin k0_t1_loop.trips) : Fin 3 → Nat :=
  let c0_113 : Index := 0#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v284 : Index := Scalar.indexCast v267
  let c128_114 : Index := 128#32
  ![0, v284.toNat, 128]
def k0_mult2 (k0_t1 : Fin k0_t1_loop.trips) : BitVec 32 :=
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let c0_i32_115 : BitVec 32 := 0#32
  let v288 : BitVec 32 := Scalar.addi v267 c0_i32_115
  v288
def k0_off4 (k0_t1 : Fin k0_t1_loop.trips) (c0_i32_115 : BitVec 32) : Fin 3 → Nat :=
  let c0_116 : Index := 0#32
  let c0_117 : Index := 0#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v288 : BitVec 32 := Scalar.addi v267 c0_i32_115
  let v289 : BitVec 32 := v288
  let v294 : Index := Scalar.indexCast v289
  ![0, 0, v294.toNat]
def k0_off5 (k0_t1 : Fin k0_t1_loop.trips) (c0_i32_115 : BitVec 32) : Fin 3 → Nat :=
  let c0_118 : Index := 0#32
  let c64 : Index := 64#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v288 : BitVec 32 := Scalar.addi v267 c0_i32_115
  let v289 : BitVec 32 := v288
  let v298 : Index := Scalar.indexCast v289
  ![0, 64, v298.toNat]
def k0_off6 (k0_t1 : Fin k0_t1_loop.trips) (c0_i32_115 : BitVec 32) : Fin 3 → Nat :=
  let c1_119 : Index := 1#32
  let c0_120 : Index := 0#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v288 : BitVec 32 := Scalar.addi v267 c0_i32_115
  let v289 : BitVec 32 := v288
  let v303 : Index := Scalar.indexCast v289
  ![1, 0, v303.toNat]
def k0_off7 (k0_t1 : Fin k0_t1_loop.trips) (c0_i32_115 : BitVec 32) : Fin 3 → Nat :=
  let c1_121 : Index := 1#32
  let c64_122 : Index := 64#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v288 : BitVec 32 := Scalar.addi v267 c0_i32_115
  let v289 : BitVec 32 := v288
  let v307 : Index := Scalar.indexCast v289
  ![1, 64, v307.toNat]
def k0_mult3 (k0_t1 : Fin k0_t1_loop.trips) : BitVec 32 :=
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let c128_i32 : BitVec 32 := 128#32
  let v311 : BitVec 32 := Scalar.addi v267 c128_i32
  v311
def k0_off8 (k0_t1 : Fin k0_t1_loop.trips) : Fin 3 → Nat :=
  let c0_133 : Index := 0#32
  let c0_i32_86 : BitVec 32 := 0#32
  let c1_i32_87 : BitVec 32 := 1#32
  let arg13 : BitVec 32 := Scf.iv c0_i32_86 c1_i32_87 k0_t1
  let v339 : Index := Scalar.indexCast arg13
  let c0_134 : Index := 0#32
  ![0, v339.toNat, 0]
def k0_off9 (k0_t1 : Fin k0_t1_loop.trips) : Fin 3 → Nat :=
  let c0_135 : Index := 0#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v343 : Index := Scalar.indexCast v267
  let c128_136 : Index := 128#32
  ![0, v343.toNat, 128]
def k0_off10 (k0_t1 : Fin k0_t1_loop.trips) : Fin 3 → Nat :=
  let c1_139 : Index := 1#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v350 : Index := Scalar.indexCast v267
  let c0_140 : Index := 0#32
  ![1, v350.toNat, 0]
def k0_off11 (k0_t1 : Fin k0_t1_loop.trips) : Fin 3 → Nat :=
  let c1_141 : Index := 1#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v354 : Index := Scalar.indexCast v267
  let c128_142 : Index := 128#32
  ![1, v354.toNat, 128]
def k0_mult4 (k0_t1 : Fin k0_t1_loop.trips) : BitVec 32 :=
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let c0_i32_143 : BitVec 32 := 0#32
  let v358 : BitVec 32 := Scalar.addi v267 c0_i32_143
  v358
def k0_off12 (k0_t1 : Fin k0_t1_loop.trips) (c0_i32_143 : BitVec 32) : Fin 3 → Nat :=
  let c2_144 : Index := 2#32
  let c0_145 : Index := 0#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v358 : BitVec 32 := Scalar.addi v267 c0_i32_143
  let v359 : BitVec 32 := v358
  let v364 : Index := Scalar.indexCast v359
  ![2, 0, v364.toNat]
def k0_off13 (k0_t1 : Fin k0_t1_loop.trips) (c0_i32_143 : BitVec 32) : Fin 3 → Nat :=
  let c2_146 : Index := 2#32
  let c64_147 : Index := 64#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v358 : BitVec 32 := Scalar.addi v267 c0_i32_143
  let v359 : BitVec 32 := v358
  let v368 : Index := Scalar.indexCast v359
  ![2, 64, v368.toNat]
def k0_off14 (k0_t1 : Fin k0_t1_loop.trips) (c0_i32_143 : BitVec 32) : Fin 3 → Nat :=
  let c3_148 : Index := 3#32
  let c0_149 : Index := 0#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v358 : BitVec 32 := Scalar.addi v267 c0_i32_143
  let v359 : BitVec 32 := v358
  let v373 : Index := Scalar.indexCast v359
  ![3, 0, v373.toNat]
def k0_off15 (k0_t1 : Fin k0_t1_loop.trips) (c0_i32_143 : BitVec 32) : Fin 3 → Nat :=
  let c3_150 : Index := 3#32
  let c64_151 : Index := 64#32
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let v358 : BitVec 32 := Scalar.addi v267 c0_i32_143
  let v359 : BitVec 32 := v358
  let v377 : Index := Scalar.indexCast v359
  ![3, 64, v377.toNat]
def k0_mult5 (k0_t1 : Fin k0_t1_loop.trips) : BitVec 32 :=
  let c0_i32_86 : BitVec 32 := 0#32
  let c1_i32_87 : BitVec 32 := 1#32
  let arg13 : BitVec 32 := Scf.iv c0_i32_86 c1_i32_87 k0_t1
  let c256_i32 : BitVec 32 := 256#32
  let v266 : BitVec 32 := Scalar.muli arg13 c256_i32
  let v267 : BitVec 32 := v266
  let c128_i32_152 : BitVec 32 := 128#32
  let v381 : BitVec 32 := Scalar.addi v267 c128_i32_152
  v381
def k0_off16 (k0_t1 : Fin k0_t1_loop.trips) : Fin 3 → Nat :=
  let c1_163 : Index := 1#32
  let c0_i32_86 : BitVec 32 := 0#32
  let c1_i32_87 : BitVec 32 := 1#32
  let arg13 : BitVec 32 := Scf.iv c0_i32_86 c1_i32_87 k0_t1
  let v409 : Index := Scalar.indexCast arg13
  let c0_164 : Index := 0#32
  ![1, v409.toNat, 0]
@[reducible] def k0_t2_loop : Scf.Loop 32 :=
  let c0_i32_103 : BitVec 32 := 0#32
  let c8_i32_104 : BitVec 32 := 8#32
  let v265 : BitVec 32 := Scalar.addi c0_i32_103 c8_i32_104
  let c1_i32_105 : BitVec 32 := 1#32
  ⟨c0_i32_103, v265, c1_i32_105⟩
def k0_mult6 (k0_t2 : Fin k0_t2_loop.trips) : BitVec 32 :=
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  v266
def k0_off17 (k0_t2 : Fin k0_t2_loop.trips) : Fin 3 → Nat :=
  let c0_109 : Index := 0#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v272 : Index := Scalar.indexCast v267
  let c0_110 : Index := 0#32
  ![0, v272.toNat, 0]
def k0_off18 (k0_t2 : Fin k0_t2_loop.trips) : Fin 3 → Nat :=
  let c0_115 : Index := 0#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v308 : Index := Scalar.indexCast v267
  let c128_116 : Index := 128#32
  ![0, v308.toNat, 128]
def k0_off19 (k0_t2 : Fin k0_t2_loop.trips) : Fin 3 → Nat :=
  let c0_194 : Index := 0#32
  let c0_195 : Index := 0#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v563 : Index := Scalar.indexCast v267
  ![0, 0, v563.toNat]
def k0_off20 (k0_t2 : Fin k0_t2_loop.trips) : Fin 3 → Nat :=
  let c0_196 : Index := 0#32
  let c128_197 : Index := 128#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v567 : Index := Scalar.indexCast v267
  ![0, 128, v567.toNat]
def k0_off21 (k0_t2 : Fin k0_t2_loop.trips) : Fin 3 → Nat :=
  let c0_198 : Index := 0#32
  let c144 : Index := 144#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v571 : Index := Scalar.indexCast v267
  ![0, 144, v571.toNat]
def k0_off22 (k0_t2 : Fin k0_t2_loop.trips) : Fin 3 → Nat :=
  let c1_204 : Index := 1#32
  let c0_205 : Index := 0#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v586 : Index := Scalar.indexCast v267
  ![1, 0, v586.toNat]
def k0_off23 (k0_t2 : Fin k0_t2_loop.trips) : Fin 3 → Nat :=
  let c1_206 : Index := 1#32
  let c128_207 : Index := 128#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v590 : Index := Scalar.indexCast v267
  ![1, 128, v590.toNat]
def k0_off24 (k0_t2 : Fin k0_t2_loop.trips) : Fin 3 → Nat :=
  let c1_208 : Index := 1#32
  let c144_209 : Index := 144#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v594 : Index := Scalar.indexCast v267
  ![1, 144, v594.toNat]
def k0_off25 (k0_t2 : Fin k0_t2_loop.trips) : Fin 3 → Nat :=
  let c2_215 : Index := 2#32
  let c0_216 : Index := 0#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v609 : Index := Scalar.indexCast v267
  ![2, 0, v609.toNat]
def k0_off26 (k0_t2 : Fin k0_t2_loop.trips) : Fin 3 → Nat :=
  let c2_217 : Index := 2#32
  let c128_218 : Index := 128#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v613 : Index := Scalar.indexCast v267
  ![2, 128, v613.toNat]
def k0_off27 (k0_t2 : Fin k0_t2_loop.trips) : Fin 3 → Nat :=
  let c2_219 : Index := 2#32
  let c144_220 : Index := 144#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v617 : Index := Scalar.indexCast v267
  ![2, 144, v617.toNat]
def k0_off28 (k0_t2 : Fin k0_t2_loop.trips) : Fin 3 → Nat :=
  let c3_226 : Index := 3#32
  let c0_227 : Index := 0#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v632 : Index := Scalar.indexCast v267
  ![3, 0, v632.toNat]
def k0_off29 (k0_t2 : Fin k0_t2_loop.trips) : Fin 3 → Nat :=
  let c3_228 : Index := 3#32
  let c128_229 : Index := 128#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v636 : Index := Scalar.indexCast v267
  ![3, 128, v636.toNat]
def k0_off30 (k0_t2 : Fin k0_t2_loop.trips) : Fin 3 → Nat :=
  let c3_230 : Index := 3#32
  let c144_231 : Index := 144#32
  let c0_i32_103 : BitVec 32 := 0#32
  let c1_i32_105 : BitVec 32 := 1#32
  let arg13 : BitVec 32 := Scf.iv c0_i32_103 c1_i32_105 k0_t2
  let c512_i32_107 : BitVec 32 := 512#32
  let v266 : BitVec 32 := Scalar.muli arg13 c512_i32_107
  let v267 : BitVec 32 := v266
  let v640 : Index := Scalar.indexCast v267
  ![3, 144, v640.toNat]
def k0_mult7 (i : grid0.Coords) : BitVec 32 :=
  let arg2 : BitVec 32 := BitVec.ofNat 32 (i 2).val
  let c512_i32 : BitVec 32 := 512#32
  let v16 : BitVec 32 := Scalar.muli arg2 c512_i32
  v16
def k0_off31 (i : grid0.Coords) : Fin 3 → Nat :=
  let c0 : Index := 0#32
  let c0_3 : Index := 0#32
  let arg2 : BitVec 32 := BitVec.ofNat 32 (i 2).val
  let c512_i32 : BitVec 32 := 512#32
  let v16 : BitVec 32 := Scalar.muli arg2 c512_i32
  let v17 : BitVec 32 := v16
  let v18 : Index := Scalar.indexCast v17
  ![0, 0, v18.toNat]
def k0_mult8 (i : grid0.Coords) : BitVec 32 :=
  let arg2 : BitVec 32 := BitVec.ofNat 32 (i 2).val
  let c512_i32_4 : BitVec 32 := 512#32
  let v21 : BitVec 32 := Scalar.muli arg2 c512_i32_4
  v21
def k0_off32 (i : grid0.Coords) : Fin 3 → Nat :=
  let c1 : Index := 1#32
  let c0_5 : Index := 0#32
  let arg2 : BitVec 32 := BitVec.ofNat 32 (i 2).val
  let c512_i32_4 : BitVec 32 := 512#32
  let v21 : BitVec 32 := Scalar.muli arg2 c512_i32_4
  let v22 : BitVec 32 := v21
  let v23 : Index := Scalar.indexCast v22
  ![1, 0, v23.toNat]
def k0_mult9 (i : grid0.Coords) : BitVec 32 :=
  let arg2 : BitVec 32 := BitVec.ofNat 32 (i 2).val
  let c512_i32_6 : BitVec 32 := 512#32
  let v26 : BitVec 32 := Scalar.muli arg2 c512_i32_6
  v26
def k0_off33 (i : grid0.Coords) : Fin 3 → Nat :=
  let c2 : Index := 2#32
  let c0_7 : Index := 0#32
  let arg2 : BitVec 32 := BitVec.ofNat 32 (i 2).val
  let c512_i32_6 : BitVec 32 := 512#32
  let v26 : BitVec 32 := Scalar.muli arg2 c512_i32_6
  let v27 : BitVec 32 := v26
  let v28 : Index := Scalar.indexCast v27
  ![2, 0, v28.toNat]
def k0_mult10 (i : grid0.Coords) : BitVec 32 :=
  let arg2 : BitVec 32 := BitVec.ofNat 32 (i 2).val
  let c512_i32_8 : BitVec 32 := 512#32
  let v31 : BitVec 32 := Scalar.muli arg2 c512_i32_8
  v31
def k0_off34 (i : grid0.Coords) : Fin 3 → Nat :=
  let c3 : Index := 3#32
  let c0_9 : Index := 0#32
  let arg2 : BitVec 32 := BitVec.ofNat 32 (i 2).val
  let c512_i32_8 : BitVec 32 := 512#32
  let v31 : BitVec 32 := Scalar.muli arg2 c512_i32_8
  let v32 : BitVec 32 := v31
  let v33 : Index := Scalar.indexCast v32
  ![3, 0, v33.toNat]
def k0_mult11 : BitVec 32 :=
  let c0_i32_23 : BitVec 32 := 0#32
  c0_i32_23
@[reducible] def k0_t3_loop (i : grid0.Coords) : Scf.Loop 32 :=
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_70 : BitVec 32 := 1#32
  ⟨c0_i32_68, v162, c1_i32_70⟩
def k0_mult12 (i : grid0.Coords) (k0_t3 : Fin (k0_t3_loop i).trips) : BitVec 32 :=
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c1_i32_82 : BitVec 32 := 1#32
  let v199 : BitVec 32 := Scalar.addi v198 c1_i32_82
  let c512_i32_83 : BitVec 32 := 512#32
  let v200 : BitVec 32 := Scalar.muli v199 c512_i32_83
  v200
def k0_off35 (i : grid0.Coords) (k0_t3 : Fin (k0_t3_loop i).trips) (c1_i32_82 : BitVec 32) : Fin 3 → Nat :=
  let c0_84 : Index := 0#32
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let v199 : BitVec 32 := Scalar.addi v198 c1_i32_82
  let c512_i32_83 : BitVec 32 := 512#32
  let v200 : BitVec 32 := Scalar.muli v199 c512_i32_83
  let v201 : BitVec 32 := v200
  let v202 : Index := Scalar.indexCast v201
  let c0_85 : Index := 0#32
  ![0, v202.toNat, 0]
def k0_off36 (i : grid0.Coords) (k0_t3 : Fin (k0_t3_loop i).trips) (c1_i32_82 : BitVec 32) : Fin 3 → Nat :=
  let c1_86 : Index := 1#32
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let v199 : BitVec 32 := Scalar.addi v198 c1_i32_82
  let c512_i32_83 : BitVec 32 := 512#32
  let v200 : BitVec 32 := Scalar.muli v199 c512_i32_83
  let v201 : BitVec 32 := v200
  let v205 : Index := Scalar.indexCast v201
  let c0_87 : Index := 0#32
  ![1, v205.toNat, 0]
def k0_mult13 (i : grid0.Coords) (k0_t3 : Fin (k0_t3_loop i).trips) : BitVec 32 :=
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c512_i32_108 : BitVec 32 := 512#32
  let v232 : BitVec 32 := Scalar.muli v198 c512_i32_108
  v232
def k0_off37 (i : grid0.Coords) (k0_t3 : Fin (k0_t3_loop i).trips) : Fin 3 → Nat :=
  let c0_121 : Index := 0#32
  let c0_122 : Index := 0#32
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c512_i32_108 : BitVec 32 := 512#32
  let v232 : BitVec 32 := Scalar.muli v198 c512_i32_108
  let v233 : BitVec 32 := v232
  let v262 : Index := Scalar.indexCast v233
  ![0, 0, v262.toNat]
def k0_off38 (i : grid0.Coords) (k0_t3 : Fin (k0_t3_loop i).trips) : Fin 3 → Nat :=
  let c1_124 : Index := 1#32
  let c0_125 : Index := 0#32
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c512_i32_108 : BitVec 32 := 512#32
  let v232 : BitVec 32 := Scalar.muli v198 c512_i32_108
  let v233 : BitVec 32 := v232
  let v266 : Index := Scalar.indexCast v233
  ![1, 0, v266.toNat]
def k0_off39 (i : grid0.Coords) (k0_t3 : Fin (k0_t3_loop i).trips) : Fin 3 → Nat :=
  let c2_127 : Index := 2#32
  let c0_128 : Index := 0#32
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c512_i32_108 : BitVec 32 := 512#32
  let v232 : BitVec 32 := Scalar.muli v198 c512_i32_108
  let v233 : BitVec 32 := v232
  let v270 : Index := Scalar.indexCast v233
  ![2, 0, v270.toNat]
def k0_off40 (i : grid0.Coords) (k0_t3 : Fin (k0_t3_loop i).trips) : Fin 3 → Nat :=
  let c3_130 : Index := 3#32
  let c0_131 : Index := 0#32
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c512_i32_108 : BitVec 32 := 512#32
  let v232 : BitVec 32 := Scalar.muli v198 c512_i32_108
  let v233 : BitVec 32 := v232
  let v274 : Index := Scalar.indexCast v233
  ![3, 0, v274.toNat]
def k0_mult14 (i : grid0.Coords) (k0_t3 : Fin (k0_t3_loop i).trips) : BitVec 32 :=
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c2_i32_133 : BitVec 32 := 2#32
  let v298 : BitVec 32 := Scalar.addi v198 c2_i32_133
  let c512_i32_134 : BitVec 32 := 512#32
  let v299 : BitVec 32 := Scalar.muli v298 c512_i32_134
  v299
def k0_mult15 (i : grid0.Coords) (k0_t3 : Fin (k0_t3_loop i).trips) : BitVec 32 :=
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c1_i32_171 : BitVec 32 := 1#32
  let v395 : BitVec 32 := Scalar.addi v198 c1_i32_171
  let c512_i32_172 : BitVec 32 := 512#32
  let v396 : BitVec 32 := Scalar.muli v395 c512_i32_172
  v396
def k0_off41 (i : grid0.Coords) (k0_t3 : Fin (k0_t3_loop i).trips) : Fin 3 → Nat :=
  let c0_185 : Index := 0#32
  let c0_186 : Index := 0#32
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c1_i32_171 : BitVec 32 := 1#32
  let v395 : BitVec 32 := Scalar.addi v198 c1_i32_171
  let c512_i32_172 : BitVec 32 := 512#32
  let v396 : BitVec 32 := Scalar.muli v395 c512_i32_172
  let v397 : BitVec 32 := v396
  let v426 : Index := Scalar.indexCast v397
  ![0, 0, v426.toNat]
def k0_off42 (i : grid0.Coords) (k0_t3 : Fin (k0_t3_loop i).trips) : Fin 3 → Nat :=
  let c1_188 : Index := 1#32
  let c0_189 : Index := 0#32
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c1_i32_171 : BitVec 32 := 1#32
  let v395 : BitVec 32 := Scalar.addi v198 c1_i32_171
  let c512_i32_172 : BitVec 32 := 512#32
  let v396 : BitVec 32 := Scalar.muli v395 c512_i32_172
  let v397 : BitVec 32 := v396
  let v430 : Index := Scalar.indexCast v397
  ![1, 0, v430.toNat]
def k0_off43 (i : grid0.Coords) (k0_t3 : Fin (k0_t3_loop i).trips) : Fin 3 → Nat :=
  let c2_191 : Index := 2#32
  let c0_192 : Index := 0#32
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c1_i32_171 : BitVec 32 := 1#32
  let v395 : BitVec 32 := Scalar.addi v198 c1_i32_171
  let c512_i32_172 : BitVec 32 := 512#32
  let v396 : BitVec 32 := Scalar.muli v395 c512_i32_172
  let v397 : BitVec 32 := v396
  let v434 : Index := Scalar.indexCast v397
  ![2, 0, v434.toNat]
def k0_off44 (i : grid0.Coords) (k0_t3 : Fin (k0_t3_loop i).trips) : Fin 3 → Nat :=
  let c3_194 : Index := 3#32
  let c0_195 : Index := 0#32
  let c2_i32_81 : BitVec 32 := 2#32
  let c0_i32_68 : BitVec 32 := 0#32
  let c1_i32_70 : BitVec 32 := 1#32
  let arg13 : BitVec 32 := Scf.iv c0_i32_68 c1_i32_70 k0_t3
  let v198 : BitVec 32 := Scalar.muli c2_i32_81 arg13
  let c1_i32_171 : BitVec 32 := 1#32
  let v395 : BitVec 32 := Scalar.addi v198 c1_i32_171
  let c512_i32_172 : BitVec 32 := 512#32
  let v396 : BitVec 32 := Scalar.muli v395 c512_i32_172
  let v397 : BitVec 32 := v396
  let v438 : Index := Scalar.indexCast v397
  ![3, 0, v438.toNat]
@[reducible] def k0_t4_loop (i : grid0.Coords) : Scf.Loop 32 :=
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let v159 : BitVec 32 := Scalar.addi c0_i32_68 v158
  let c1_i32_71 : BitVec 32 := 1#32
  ⟨v162, v159, c1_i32_71⟩
def k0_mult16 (i : grid0.Coords) (k0_t4 : Fin (k0_t4_loop i).trips) : BitVec 32 :=
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c1_i32_82 : BitVec 32 := 1#32
  let v199 : BitVec 32 := Scalar.addi v198 c1_i32_82
  let c512_i32_83 : BitVec 32 := 512#32
  let v200 : BitVec 32 := Scalar.muli v199 c512_i32_83
  v200
def k0_off45 (i : grid0.Coords) (k0_t4 : Fin (k0_t4_loop i).trips) (c1_i32_82 : BitVec 32) : Fin 3 → Nat :=
  let c0_84 : Index := 0#32
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let v199 : BitVec 32 := Scalar.addi v198 c1_i32_82
  let c512_i32_83 : BitVec 32 := 512#32
  let v200 : BitVec 32 := Scalar.muli v199 c512_i32_83
  let v201 : BitVec 32 := v200
  let v202 : Index := Scalar.indexCast v201
  let c0_85 : Index := 0#32
  ![0, v202.toNat, 0]
def k0_off46 (i : grid0.Coords) (k0_t4 : Fin (k0_t4_loop i).trips) (c1_i32_82 : BitVec 32) : Fin 3 → Nat :=
  let c1_86 : Index := 1#32
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let v199 : BitVec 32 := Scalar.addi v198 c1_i32_82
  let c512_i32_83 : BitVec 32 := 512#32
  let v200 : BitVec 32 := Scalar.muli v199 c512_i32_83
  let v201 : BitVec 32 := v200
  let v205 : Index := Scalar.indexCast v201
  let c0_87 : Index := 0#32
  ![1, v205.toNat, 0]
def k0_mult17 (i : grid0.Coords) (k0_t4 : Fin (k0_t4_loop i).trips) : BitVec 32 :=
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c512_i32_108 : BitVec 32 := 512#32
  let v232 : BitVec 32 := Scalar.muli v198 c512_i32_108
  v232
def k0_off47 (i : grid0.Coords) (k0_t4 : Fin (k0_t4_loop i).trips) : Fin 3 → Nat :=
  let c0_121 : Index := 0#32
  let c0_122 : Index := 0#32
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c512_i32_108 : BitVec 32 := 512#32
  let v232 : BitVec 32 := Scalar.muli v198 c512_i32_108
  let v233 : BitVec 32 := v232
  let v262 : Index := Scalar.indexCast v233
  ![0, 0, v262.toNat]
def k0_off48 (i : grid0.Coords) (k0_t4 : Fin (k0_t4_loop i).trips) : Fin 3 → Nat :=
  let c1_124 : Index := 1#32
  let c0_125 : Index := 0#32
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c512_i32_108 : BitVec 32 := 512#32
  let v232 : BitVec 32 := Scalar.muli v198 c512_i32_108
  let v233 : BitVec 32 := v232
  let v266 : Index := Scalar.indexCast v233
  ![1, 0, v266.toNat]
def k0_off49 (i : grid0.Coords) (k0_t4 : Fin (k0_t4_loop i).trips) : Fin 3 → Nat :=
  let c2_127 : Index := 2#32
  let c0_128 : Index := 0#32
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c512_i32_108 : BitVec 32 := 512#32
  let v232 : BitVec 32 := Scalar.muli v198 c512_i32_108
  let v233 : BitVec 32 := v232
  let v270 : Index := Scalar.indexCast v233
  ![2, 0, v270.toNat]
def k0_off50 (i : grid0.Coords) (k0_t4 : Fin (k0_t4_loop i).trips) : Fin 3 → Nat :=
  let c3_130 : Index := 3#32
  let c0_131 : Index := 0#32
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c512_i32_108 : BitVec 32 := 512#32
  let v232 : BitVec 32 := Scalar.muli v198 c512_i32_108
  let v233 : BitVec 32 := v232
  let v274 : Index := Scalar.indexCast v233
  ![3, 0, v274.toNat]
def k0_mult18 (i : grid0.Coords) (k0_t4 : Fin (k0_t4_loop i).trips) : BitVec 32 :=
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c2_i32_133 : BitVec 32 := 2#32
  let v298 : BitVec 32 := Scalar.addi v198 c2_i32_133
  let c512_i32_134 : BitVec 32 := 512#32
  let v299 : BitVec 32 := Scalar.muli v298 c512_i32_134
  v299
def k0_mult19 (i : grid0.Coords) (k0_t4 : Fin (k0_t4_loop i).trips) : BitVec 32 :=
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c1_i32_171 : BitVec 32 := 1#32
  let v395 : BitVec 32 := Scalar.addi v198 c1_i32_171
  let c512_i32_172 : BitVec 32 := 512#32
  let v396 : BitVec 32 := Scalar.muli v395 c512_i32_172
  v396
def k0_off51 (i : grid0.Coords) (k0_t4 : Fin (k0_t4_loop i).trips) : Fin 3 → Nat :=
  let c0_185 : Index := 0#32
  let c0_186 : Index := 0#32
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c1_i32_171 : BitVec 32 := 1#32
  let v395 : BitVec 32 := Scalar.addi v198 c1_i32_171
  let c512_i32_172 : BitVec 32 := 512#32
  let v396 : BitVec 32 := Scalar.muli v395 c512_i32_172
  let v397 : BitVec 32 := v396
  let v426 : Index := Scalar.indexCast v397
  ![0, 0, v426.toNat]
def k0_off52 (i : grid0.Coords) (k0_t4 : Fin (k0_t4_loop i).trips) : Fin 3 → Nat :=
  let c1_188 : Index := 1#32
  let c0_189 : Index := 0#32
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c1_i32_171 : BitVec 32 := 1#32
  let v395 : BitVec 32 := Scalar.addi v198 c1_i32_171
  let c512_i32_172 : BitVec 32 := 512#32
  let v396 : BitVec 32 := Scalar.muli v395 c512_i32_172
  let v397 : BitVec 32 := v396
  let v430 : Index := Scalar.indexCast v397
  ![1, 0, v430.toNat]
def k0_off53 (i : grid0.Coords) (k0_t4 : Fin (k0_t4_loop i).trips) : Fin 3 → Nat :=
  let c2_191 : Index := 2#32
  let c0_192 : Index := 0#32
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c1_i32_171 : BitVec 32 := 1#32
  let v395 : BitVec 32 := Scalar.addi v198 c1_i32_171
  let c512_i32_172 : BitVec 32 := 512#32
  let v396 : BitVec 32 := Scalar.muli v395 c512_i32_172
  let v397 : BitVec 32 := v396
  let v434 : Index := Scalar.indexCast v397
  ![2, 0, v434.toNat]
def k0_off54 (i : grid0.Coords) (k0_t4 : Fin (k0_t4_loop i).trips) : Fin 3 → Nat :=
  let c3_194 : Index := 3#32
  let c0_195 : Index := 0#32
  let c2_i32_81 : BitVec 32 := 2#32
  let c0_i32_68 : BitVec 32 := 0#32
  let arg2 : BitVec 32 := BitVec.ofNat 32 (i 2).val
  let c0_i32_17 : BitVec 32 := 0#32
  let v47 : BitVec 1 := Scalar.cmpi .sgt arg2 c0_i32_17
  let v48 : BitVec 32 := Scalar.extui v47
  let c0_i32_18 : BitVec 32 := 0#32
  let v49 : BitVec 1 := Scalar.cmpi .slt arg2 c0_i32_18
  let v50 : BitVec 32 := Scalar.extui v49
  let v51 : BitVec 32 := Scalar.subi v48 v50
  let c2_i32 : BitVec 32 := 2#32
  let c0_i32_19 : BitVec 32 := 0#32
  let v52 : BitVec 1 := Scalar.cmpi .sgt c2_i32 c0_i32_19
  let v53 : BitVec 32 := Scalar.extui v52
  let c0_i32_20 : BitVec 32 := 0#32
  let v54 : BitVec 1 := Scalar.cmpi .slt c2_i32 c0_i32_20
  let v55 : BitVec 32 := Scalar.extui v54
  let v56 : BitVec 32 := Scalar.subi v53 v55
  let v57 : BitVec 1 := Scalar.cmpi .ne v51 v56
  let v58 : BitVec 32 := Scalar.remsi arg2 c2_i32
  let c0_i32_21 : BitVec 32 := 0#32
  let v59 : BitVec 1 := Scalar.cmpi .ne v58 c0_i32_21
  let v60 : BitVec 1 := Scalar.andi v57 v59
  let v46 : BitVec 32 := Scalar.divsi arg2 c2_i32
  let c1_i32_22 : BitVec 32 := 1#32
  let v61 : BitVec 32 := Scalar.subi v46 c1_i32_22
  let v62 : BitVec 32 := Scalar.select v60 v61 v46
  let v158 : BitVec 32 := Scalar.subi v62 c0_i32_68
  let c1_i32_69 : BitVec 32 := 1#32
  let v160 : BitVec 32 := Scalar.divsi v158 c1_i32_69
  let v161 : BitVec 32 := Scalar.muli v160 c1_i32_69
  let v162 : BitVec 32 := Scalar.addi c0_i32_68 v161
  let c1_i32_71 : BitVec 32 := 1#32
  let arg13 : BitVec 32 := Scf.iv v162 c1_i32_71 k0_t4
  let v198 : BitVec 32 := Scalar.muli c2_i32_81 arg13
  let c1_i32_171 : BitVec 32 := 1#32
  let v395 : BitVec 32 := Scalar.addi v198 c1_i32_171
  let c512_i32_172 : BitVec 32 := 512#32
  let v396 : BitVec 32 := Scalar.muli v395 c512_i32_172
  let v397 : BitVec 32 := v396
  let v438 : Index := Scalar.indexCast v397
  ![3, 0, v438.toNat]
def k0_cond2 (i : grid0.Coords) : BitVec 1 :=
  let arg2 : BitVec 32 := BitVec.ofNat 32 (i 2).val
  let c1_i32_72 : BitVec 32 := 1#32
  let v165 : BitVec 32 := Scalar.andi arg2 c1_i32_72
  let c1_i32_73 : BitVec 32 := 1#32
  let v166 : BitVec 1 := Scalar.cmpi .eq v165 c1_i32_73
  let v167 : BitVec 32 := Scalar.extui v166
  let c0_i32_75 : BitVec 32 := 0#32
  let v168 : BitVec 1 := Scalar.cmpi .ne v167 c0_i32_75
  v168

def k0_mult20 (i : grid0.Coords) : BitVec 32 :=
  let arg2 : BitVec 32 := BitVec.ofNat 32 (i 2).val
  let c512_i32_81 : BitVec 32 := 512#32
  let v198 : BitVec 32 := Scalar.muli arg2 c512_i32_81
  v198
def k0_off55 (i : grid0.Coords) : Fin 3 → Nat :=
  let c0_82 : Index := 0#32
  let arg2 : BitVec 32 := BitVec.ofNat 32 (i 2).val
  let c512_i32_81 : BitVec 32 := 512#32
  let v198 : BitVec 32 := Scalar.muli arg2 c512_i32_81
  let v199 : BitVec 32 := v198
  let v200 : Index := Scalar.indexCast v199
  let c0_83 : Index := 0#32
  ![0, v200.toNat, 0]
def k0_off56 (i : grid0.Coords) : Fin 3 → Nat :=
  let c1_84 : Index := 1#32
  let arg2 : BitVec 32 := BitVec.ofNat 32 (i 2).val
  let c512_i32_81 : BitVec 32 := 512#32
  let v198 : BitVec 32 := Scalar.muli arg2 c512_i32_81
  let v199 : BitVec 32 := v198
  let v203 : Index := Scalar.indexCast v199
  let c0_85 : Index := 0#32
  ![1, v203.toNat, 0]
def k0_mult21 (i : grid0.Coords) : BitVec 32 :=
  let arg2 : BitVec 32 := BitVec.ofNat 32 (i 2).val
  let c1_i32_118 : BitVec 32 := 1#32
  let v294 : BitVec 32 := Scalar.subi arg2 c1_i32_118
  let c512_i32_119 : BitVec 32 := 512#32
  let v295 : BitVec 32 := Scalar.muli v294 c512_i32_119
  v295
def k0_off57 (i : grid0.Coords) : Fin 3 → Nat :=
  let c0_132 : Index := 0#32
  let c0_133 : Index := 0#32
  let arg2 : BitVec 32 := BitVec.ofNat 32 (i 2).val
  let c1_i32_118 : BitVec 32 := 1#32
  let v294 : BitVec 32 := Scalar.subi arg2 c1_i32_118
  let c512_i32_119 : BitVec 32 := 512#32
  let v295 : BitVec 32 := Scalar.muli v294 c512_i32_119
  let v296 : BitVec 32 := v295
  let v325 : Index := Scalar.indexCast v296
  ![0, 0, v325.toNat]
def k0_off58 (i : grid0.Coords) : Fin 3 → Nat :=
  let c1_135 : Index := 1#32
  let c0_136 : Index := 0#32
  let arg2 : BitVec 32 := BitVec.ofNat 32 (i 2).val
  let c1_i32_118 : BitVec 32 := 1#32
  let v294 : BitVec 32 := Scalar.subi arg2 c1_i32_118
  let c512_i32_119 : BitVec 32 := 512#32
  let v295 : BitVec 32 := Scalar.muli v294 c512_i32_119
  let v296 : BitVec 32 := v295
  let v329 : Index := Scalar.indexCast v296
  ![1, 0, v329.toNat]
def k0_off59 (i : grid0.Coords) : Fin 3 → Nat :=
  let c2_138 : Index := 2#32
  let c0_139 : Index := 0#32
  let arg2 : BitVec 32 := BitVec.ofNat 32 (i 2).val
  let c1_i32_118 : BitVec 32 := 1#32
  let v294 : BitVec 32 := Scalar.subi arg2 c1_i32_118
  let c512_i32_119 : BitVec 32 := 512#32
  let v295 : BitVec 32 := Scalar.muli v294 c512_i32_119
  let v296 : BitVec 32 := v295
  let v333 : Index := Scalar.indexCast v296
  ![2, 0, v333.toNat]
def k0_off60 (i : grid0.Coords) : Fin 3 → Nat :=
  let c3_141 : Index := 3#32
  let c0_142 : Index := 0#32
  let arg2 : BitVec 32 := BitVec.ofNat 32 (i 2).val
  let c1_i32_118 : BitVec 32 := 1#32
  let v294 : BitVec 32 := Scalar.subi arg2 c1_i32_118
  let c512_i32_119 : BitVec 32 := 512#32
  let v295 : BitVec 32 := Scalar.muli v294 c512_i32_119
  let v296 : BitVec 32 := v295
  let v337 : Index := Scalar.indexCast v296
  ![3, 0, v337.toNat]
def k0_mult22 (i : grid0.Coords) : BitVec 32 :=
  let arg2 : BitVec 32 := BitVec.ofNat 32 (i 2).val
  let c512_i32_144 : BitVec 32 := 512#32
  let v361 : BitVec 32 := Scalar.muli arg2 c512_i32_144
  v361
def k0_off61 (i : grid0.Coords) : Fin 3 → Nat :=
  let c0_157 : Index := 0#32
  let c0_158 : Index := 0#32
  let arg2 : BitVec 32 := BitVec.ofNat 32 (i 2).val
  let c512_i32_144 : BitVec 32 := 512#32
  let v361 : BitVec 32 := Scalar.muli arg2 c512_i32_144
  let v362 : BitVec 32 := v361
  let v391 : Index := Scalar.indexCast v362
  ![0, 0, v391.toNat]
def k0_off62 (i : grid0.Coords) : Fin 3 → Nat :=
  let c1_160 : Index := 1#32
  let c0_161 : Index := 0#32
  let arg2 : BitVec 32 := BitVec.ofNat 32 (i 2).val
  let c512_i32_144 : BitVec 32 := 512#32
  let v361 : BitVec 32 := Scalar.muli arg2 c512_i32_144
  let v362 : BitVec 32 := v361
  let v395 : Index := Scalar.indexCast v362
  ![1, 0, v395.toNat]
def k0_off63 (i : grid0.Coords) : Fin 3 → Nat :=
  let c2_163 : Index := 2#32
  let c0_164 : Index := 0#32
  let arg2 : BitVec 32 := BitVec.ofNat 32 (i 2).val
  let c512_i32_144 : BitVec 32 := 512#32
  let v361 : BitVec 32 := Scalar.muli arg2 c512_i32_144
  let v362 : BitVec 32 := v361
  let v399 : Index := Scalar.indexCast v362
  ![2, 0, v399.toNat]
def k0_off64 (i : grid0.Coords) : Fin 3 → Nat :=
  let c3_166 : Index := 3#32
  let c0_167 : Index := 0#32
  let arg2 : BitVec 32 := BitVec.ofNat 32 (i 2).val
  let c512_i32_144 : BitVec 32 := 512#32
  let v361 : BitVec 32 := Scalar.muli arg2 c512_i32_144
  let v362 : BitVec 32 := v361
  let v403 : Index := Scalar.indexCast v362
  ![3, 0, v403.toNat]
def k0_mult23 (i : grid0.Coords) : BitVec 32 :=
  let arg2 : BitVec 32 := BitVec.ofNat 32 (i 2).val
  let c512_i32_81 : BitVec 32 := 512#32
  let v198 : BitVec 32 := Scalar.muli arg2 c512_i32_81
  v198
def k0_off65 (i : grid0.Coords) : Fin 3 → Nat :=
  let c0_94 : Index := 0#32
  let c0_95 : Index := 0#32
  let arg2 : BitVec 32 := BitVec.ofNat 32 (i 2).val
  let c512_i32_81 : BitVec 32 := 512#32
  let v198 : BitVec 32 := Scalar.muli arg2 c512_i32_81
  let v199 : BitVec 32 := v198
  let v228 : Index := Scalar.indexCast v199
  ![0, 0, v228.toNat]
def k0_off66 (i : grid0.Coords) : Fin 3 → Nat :=
  let c1_97 : Index := 1#32
  let c0_98 : Index := 0#32
  let arg2 : BitVec 32 := BitVec.ofNat 32 (i 2).val
  let c512_i32_81 : BitVec 32 := 512#32
  let v198 : BitVec 32 := Scalar.muli arg2 c512_i32_81
  let v199 : BitVec 32 := v198
  let v232 : Index := Scalar.indexCast v199
  ![1, 0, v232.toNat]
def k0_off67 (i : grid0.Coords) : Fin 3 → Nat :=
  let c2_100 : Index := 2#32
  let c0_101 : Index := 0#32
  let arg2 : BitVec 32 := BitVec.ofNat 32 (i 2).val
  let c512_i32_81 : BitVec 32 := 512#32
  let v198 : BitVec 32 := Scalar.muli arg2 c512_i32_81
  let v199 : BitVec 32 := v198
  let v236 : Index := Scalar.indexCast v199
  ![2, 0, v236.toNat]
def k0_off68 (i : grid0.Coords) : Fin 3 → Nat :=
  let c3_103 : Index := 3#32
  let c0_104 : Index := 0#32
  let arg2 : BitVec 32 := BitVec.ofNat 32 (i 2).val
  let c512_i32_81 : BitVec 32 := 512#32
  let v198 : BitVec 32 := Scalar.muli arg2 c512_i32_81
  let v199 : BitVec 32 := v198
  let v240 : Index := Scalar.indexCast v199
  ![3, 0, v240.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== Kernel2.lean ====
abbrev S8x4096x768 : Shape := ⟨3, ![8, 4096, 768]⟩
abbrev S8x4096x1024 : Shape := ⟨3, ![8, 4096, 1024]⟩
abbrev S8x4096x256 : Shape := ⟨3, ![8, 4096, 256]⟩
abbrev S8x256x512 : Shape := ⟨3, ![8, 256, 512]⟩
abbrev S1024x1024 : Shape := ⟨2, ![1024, 1024]⟩
abbrev S1024 : Shape := ⟨1, ![1024]⟩
abbrev S768x1024 : Shape := ⟨2, ![768, 1024]⟩
abbrev S256x1024 : Shape := ⟨2, ![256, 1024]⟩
abbrev S_ : Shape := ⟨0, ![]⟩
abbrev S1x768 : Shape := ⟨2, ![1, 768]⟩
abbrev S1x1024 : Shape := ⟨2, ![1, 1024]⟩
abbrev S1x512x768 : Shape := ⟨3, ![1, 512, 768]⟩
abbrev S1x512x1024 : Shape := ⟨3, ![1, 512, 1024]⟩
abbrev S1x512x256 : Shape := ⟨3, ![1, 512, 256]⟩
abbrev S1x256x512 : Shape := ⟨3, ![1, 256, 512]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩
abbrev S512x1024 : Shape := ⟨2, ![512, 1024]⟩
abbrev S512x768 : Shape := ⟨2, ![512, 768]⟩

abbrev nBuf : Space → Nat
  | .hbm => 14
  | .vmem => 16
  | .smem => 0
  | _ => 0

abbrev bufTy : (tb : Table) → Fin (tcTables nBuf tb) → BufTy
  | .hbm, ⟨0, _⟩ => ⟨S8x4096x768, .bf16⟩
  | .hbm, ⟨1, _⟩ => ⟨S8x4096x1024, .bf16⟩
  | .hbm, ⟨2, _⟩ => ⟨S8x4096x256, .bf16⟩
  | .hbm, ⟨3, _⟩ => ⟨S8x256x512, .bf16⟩
  | .hbm, ⟨4, _⟩ => ⟨S8x4096x1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S768x1024, .bf16⟩
  | .hbm, ⟨9, _⟩ => ⟨S256x1024, .bf16⟩
  | .hbm, ⟨10, _⟩ => ⟨S_, .f32⟩
  | .hbm, ⟨11, _⟩ => ⟨S1x768, .f32⟩
  | .hbm, ⟨12, _⟩ => ⟨S1x1024, .f32⟩
  | .hbm, ⟨13, _⟩ => ⟨S8x4096x1024, .f32⟩
  | .local _ .vmem, ⟨0, _⟩ => ⟨S1x512x768, .bf16⟩
  | .local _ .vmem, ⟨1, _⟩ => ⟨S1x512x768, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x512, .bf16⟩
  | .local _ .vmem, ⟨7, _⟩ => ⟨S1x256x512, .bf16⟩
  | .local _ .vmem, ⟨8, _⟩ => ⟨S1x512x1024, .f32⟩
  | .local _ .vmem, ⟨9, _⟩ => ⟨S1x512x1024, .f32⟩
  | .local _ .vmem, ⟨10, _⟩ => ⟨S768x1024, .bf16⟩
  | .local _ .vmem, ⟨11, _⟩ => ⟨S256x1024, .bf16⟩
  | .local _ .vmem, ⟨12, _⟩ => ⟨S1x768, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S8x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x4096x768 : Shape := ⟨3, ![8, 4096, 768]⟩
abbrev S8x4096x1024 : Shape := ⟨3, ![8, 4096, 1024]⟩
abbrev S8x4096x256 : Shape := ⟨3, ![8, 4096, 256]⟩
abbrev S8x256x512 : Shape := ⟨3, ![8, 256, 512]⟩
abbrev S1024x1024 : Shape := ⟨2, ![1024, 1024]⟩
abbrev S1024 : Shape := ⟨1, ![1024]⟩
abbrev S8x256x256 : Shape := ⟨3, ![8, 256, 256]⟩
abbrev S8x256x4x64 : Shape := ⟨4, ![8, 256, 4, 64]⟩
abbrev S8x4096x4x64 : Shape := ⟨4, ![8, 4096, 4, 64]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8x4096x768, .bf16⟩
  | .hbm, ⟨1, _⟩ => ⟨S8x4096x1024, .bf16⟩
  | .hbm, ⟨2, _⟩ => ⟨S8x4096x256, .bf16⟩
  | .hbm, ⟨3, _⟩ => ⟨S8x256x512, .bf16⟩
  | .hbm, ⟨4, _⟩ => ⟨S8x4096x1024, .f32⟩
  | .hbm, ⟨5, _⟩ => ⟨S1024x1024, .f32⟩
  | .hbm, ⟨6, _⟩ => ⟨S1024, .f32⟩
  | .hbm, ⟨7, _⟩ => ⟨S8x256x512, .f32⟩
  | .hbm, ⟨8, _⟩ => ⟨S8x256x256, .f32⟩
  | .hbm, ⟨9, _⟩ => ⟨S8x256x256, .f32⟩
  | .hbm, ⟨10, _⟩ => ⟨S8x256x4x64, .f32⟩
  | .hbm, ⟨11, _⟩ => ⟨S8x256x4x64, .f32⟩
  | .hbm, ⟨12, _⟩ => ⟨S8x4096x256, .f32⟩
  | .hbm, ⟨13, _⟩ => ⟨S8x4096x4x64, .f32⟩
  | .hbm, ⟨14, _⟩ => ⟨S8x4x4096x256, .f32⟩
  | .hbm, ⟨15, _⟩ => ⟨S_, .f32⟩
  | .hbm, ⟨16, _⟩ => ⟨S8x4x4096x256, .f32⟩
  | .hbm, ⟨17, _⟩ => ⟨S8x4x4096x256, .f32⟩
  | .hbm, ⟨18, _⟩ => ⟨S_, .f32⟩
  | .hbm, ⟨19, _⟩ => ⟨S8x4x4096, .f32⟩
  | .hbm, ⟨20, _⟩ => ⟨S_, .f32⟩
  | .hbm, ⟨21, _⟩ => ⟨S8x4x4096, .f32⟩
  | .hbm, ⟨22, _⟩ => ⟨S8x4x4096, .f32⟩
  | .hbm, ⟨23, _⟩ => ⟨S8x4x4096x1, .f32⟩
  | .hbm, ⟨24, _⟩ => ⟨S8x4x4096x256, .f32⟩
  | .hbm, ⟨25, _⟩ => ⟨S8x4x4096x256, .f32⟩
  | .hbm, ⟨26, _⟩ => ⟨S8x4x4096x256, .f32⟩
  | .hbm, ⟨27, _⟩ => ⟨S_, .f32⟩
  | .hbm, ⟨28, _⟩ => ⟨S8x4x4096, .f32⟩
  | .hbm, ⟨29, _⟩ => ⟨S8x4x4096x1, .f32⟩
  | .hbm, ⟨30, _⟩ => ⟨S8x4x4096x256, .f32⟩
  | .hbm, ⟨31, _⟩ => ⟨S8x4x4096x256, .f32⟩
  | .hbm, ⟨32, _⟩ => ⟨S8x4x64x4096, .f32⟩
  | .hbm, ⟨33, _⟩ => ⟨S8x4096x4x64, .f32⟩
  | .hbm, ⟨34, _⟩ => ⟨S8x4096x256, .f32⟩
  | .hbm, ⟨35, _⟩ => ⟨S8x4096x768, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1, .f32⟩
  | .hbm, ⟨61, _⟩ => ⟨S8x4096x1024, .f32⟩
  | .hbm, ⟨62, _⟩ => ⟨S8x4096x1024, .f32⟩
  | .hbm, ⟨63, _⟩ => ⟨S1x1x1024, .f32⟩
  | .hbm, ⟨64, _⟩ => ⟨S8x4096x1024, .f32⟩
  | .hbm, ⟨65, _⟩ => ⟨S8x4096x1024, .f32⟩
  | _, _ => ⟨S8x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x3608 : Shape := ⟨2, ![1024, 3608]⟩
abbrev S1024x24 : Shape := ⟨2, ![1024, 24]⟩
abbrev S_ : Shape := ⟨0, ![]⟩
abbrev S1024x128 : Shape := ⟨2, ![1024, 128]⟩
abbrev S1x1024 : Shape := ⟨2, ![1, 1024]⟩
abbrev S1024x2304 : Shape := ⟨2, ![1024, 2304]⟩
abbrev S1024x1024 : Shape := ⟨2, ![1024, 1024]⟩
abbrev S1024x256 : Shape := ⟨2, ![1024, 256]⟩
abbrev S8x4096x2304 : Shape := ⟨3, ![8, 4096, 2304]⟩
abbrev S8x4096x256 : Shape := ⟨3, ![8, 4096, 256]⟩
abbrev S8x4096x128 : Shape := ⟨3, ![8, 4096, 128]⟩
abbrev S1x512x1024 : Shape := ⟨3, ![1, 512, 1024]⟩
abbrev S1x512x2304 : Shape := ⟨3, ![1, 512, 2304]⟩
abbrev S1x512x256 : Shape := ⟨3, ![1, 512, 256]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x2304 : Shape := ⟨2, ![512, 2304]⟩
abbrev S512x256 : Shape := ⟨2, ![512, 256]⟩
abbrev S512x128 : Shape := ⟨2, ![512, 128]⟩

abbrev nBuf : Space → Nat
  | .hbm => 16
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3608, .f32⟩
  | .hbm, ⟨3, _⟩ => ⟨S1024x3608, .bf16⟩
  | .hbm, ⟨4, _⟩ => ⟨S1024x24, .bf16⟩
  | .hbm, ⟨5, _⟩ => ⟨S_, .i32⟩
  | .hbm, ⟨6, _⟩ => ⟨S_, .bf16⟩
  | .hbm, ⟨7, _⟩ => ⟨S1024x128, .bf16⟩
  | .hbm, ⟨8, _⟩ => ⟨S1x1024, .f32⟩
  | .hbm, ⟨9, _⟩ => ⟨S1024x2304, .bf16⟩
  | .hbm, ⟨10, _⟩ => ⟨S1024x1024, .bf16⟩
  | .hbm, ⟨11, _⟩ => ⟨S1024x256, .bf16⟩
  | .hbm, ⟨12, _⟩ => ⟨S8x4096x2304, .bf16⟩
  | .hbm, ⟨13, _⟩ => ⟨S8x4096x1024, .bf16⟩
  | .hbm, ⟨14, _⟩ => ⟨S8x4096x256, .bf16⟩
  | .hbm, ⟨15, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2304, .bf16⟩
  | .local _ .vmem, ⟨4, _⟩ => ⟨S1024x1024, .bf16⟩
  | .local _ .vmem, ⟨5, _⟩ => ⟨S1024x256, .bf16⟩
  | .local _ .vmem, ⟨6, _⟩ => ⟨S1024x128, .bf16⟩
  | .local _ .vmem, ⟨7, _⟩ => ⟨S1x512x2304, .bf16⟩
  | .local _ .vmem, ⟨8, _⟩ => ⟨S1x512x2304, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x128, .f32⟩
  | .local _ .vmem, ⟨14, _⟩ => ⟨S1x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x4096x1024 : Shape := ⟨3, ![8, 4096, 1024]⟩
abbrev S1024 : Shape := ⟨1, ![1024]⟩
abbrev S1024x3608 : Shape := ⟨2, ![1024, 3608]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3608 : Shape := ⟨3, ![8, 4096, 3608]⟩
abbrev S8x4096x2304 : Shape := ⟨3, ![8, 4096, 2304]⟩
abbrev S8x4096x256 : Shape := ⟨3, ![8, 4096, 256]⟩
abbrev S8x4096x24 : Shape := ⟨3, ![8, 4096, 24]⟩
abbrev S8x4096x128 : Shape := ⟨3, ![8, 4096, 128]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3608, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x3608, .f32⟩
  | .hbm, ⟨20, _⟩ => ⟨S8x4096x2304, .f32⟩
  | .hbm, ⟨21, _⟩ => ⟨S8x4096x1024, .f32⟩
  | .hbm, ⟨22, _⟩ => ⟨S8x4096x256, .f32⟩
  | .hbm, ⟨23, _⟩ => ⟨S8x4096x24, .f32⟩
  | .hbm, ⟨24, _⟩ => ⟨S8x4096x2304, .bf16⟩
  | .hbm, ⟨25, _⟩ => ⟨S8x4096x1024, .bf16⟩
  | .hbm, ⟨26, _⟩ => ⟨S8x4096x256, .bf16⟩
  | .hbm, ⟨27, _⟩ => ⟨S_, .i32⟩
  | .hbm, ⟨28, _⟩ => ⟨S_, .f32⟩
  | .hbm, ⟨29, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x4096 : Shape := ⟨2, ![8, 4096]⟩
abbrev S1024 : Shape := ⟨1, ![1024]⟩
abbrev S1024x3584 : Shape := ⟨2, ![1024, 3584]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1x1024 : Shape := ⟨2, ![1, 1024]⟩
abbrev S8x4096x1 : Shape := ⟨3, ![8, 4096, 1]⟩
abbrev S1024x768 : Shape := ⟨2, ![1024, 768]⟩
abbrev S1024x1024 : Shape := ⟨2, ![1024, 1024]⟩
abbrev S1024x256 : Shape := ⟨2, ![1024, 256]⟩
abbrev S8x4096x768 : Shape := ⟨3, ![8, 4096, 768]⟩
abbrev S8x4096x256 : Shape := ⟨3, ![8, 4096, 256]⟩
abbrev S1x512x1024 : Shape := ⟨3, ![1, 512, 1024]⟩
abbrev S1x512x1 : Shape := ⟨3, ![1, 512, 1]⟩
abbrev S1x512x768 : Shape := ⟨3, ![1, 512, 768]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S512x768 : Shape := ⟨2, ![512, 768]⟩
abbrev S1x512x128 : Shape := ⟨3, ![1, 512, 128]⟩
abbrev S512x256 : Shape := ⟨2, ![512, 256]⟩

abbrev nBuf : Space → Nat
  | .hbm => 29
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024, .f32⟩
  | .hbm, ⟨3, _⟩ => ⟨S1024x3584, .f32⟩
  | .hbm, ⟨4, _⟩ => ⟨S1024x3584, .bf16⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S1x32, .f32⟩
  | .hbm, ⟨14, _⟩ => ⟨S4x32, .f32⟩
  | .hbm, ⟨15, _⟩ => ⟨S128, .f32⟩
  | .hbm, ⟨16, _⟩ => ⟨S1x128, .f32⟩
  | .hbm, ⟨17, _⟩ => ⟨S1x1024, .f32⟩
  | .hbm, ⟨18, _⟩ => ⟨S8x4096x1, .i32⟩
  | .hbm, ⟨19, _⟩ => ⟨S1024x768, .bf16⟩
  | .hbm, ⟨20, _⟩ => ⟨S1024x768, .bf16⟩
  | .hbm, ⟨21, _⟩ => ⟨S1024x768, .bf16⟩
  | .hbm, ⟨22, _⟩ => ⟨S1024x1024, .bf16⟩
  | .hbm, ⟨23, _⟩ => ⟨S1024x256, .bf16⟩
  | .hbm, ⟨24, _⟩ => ⟨S8x4096x768, .bf16⟩
  | .hbm, ⟨25, _⟩ => ⟨S8x4096x768, .bf16⟩
  | .hbm, ⟨26, _⟩ => ⟨S8x4096x768, .bf16⟩
  | .hbm, ⟨27, _⟩ => ⟨S8x4096x1024, .bf16⟩
  | .hbm, ⟨28, _⟩ => ⟨S8x4096x256, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x512x1, .i32⟩
  | .local _ .vmem, ⟨4, _⟩ => ⟨S1x512x1, .i32⟩
  | .local _ .vmem, ⟨5, _⟩ => ⟨S1x128, .f32⟩
  | .local _ .vmem, ⟨6, _⟩ => ⟨S1024x768, .bf16⟩
  | .local _ .vmem, ⟨7, _⟩ => ⟨S1024x768, .bf16⟩
  | .local _ .vmem, ⟨8, _⟩ => ⟨S1024x768, .bf16⟩
  | .local _ .vmem, ⟨9, _⟩ => ⟨S1024x1024, .bf16⟩
  | .local _ .vmem, ⟨10, _⟩ => ⟨S1024x256, .bf16⟩
  | .local _ .vmem, ⟨11, _⟩ => ⟨S1x512x768, .bf16⟩
  | .local _ .vmem, ⟨12, _⟩ => ⟨S1x512x768, .bf16⟩
  | .local _ .vmem, ⟨13, _⟩ => ⟨S1x512x768, .bf16⟩
  | .local _ .vmem, ⟨14, _⟩ => ⟨S1x512x768, .bf16⟩
  | .local _ .vmem, ⟨15, _⟩ => ⟨S1x512x768, .bf16⟩
  | .local _ .vmem, ⟨16, _⟩ => ⟨S1x512x768, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x256, .bf16⟩
  | .local _ .vmem, ⟨20, _⟩ => ⟨S1x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v18_3 : Ref sig .tc := ⟨.hbm, 27, rfl⟩
abbrev main_v18_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference4Ideal.lean ====
abbrev S8x4096x1024 : Shape := ⟨3, ![8, 4096, 1024]⟩
abbrev S8x4096 : Shape := ⟨2, ![8, 4096]⟩
abbrev S1024 : Shape := ⟨1, ![1024]⟩
abbrev S1024x3584 : Shape := ⟨2, ![1024, 3584]⟩
abbrev S_ : Shape := ⟨0, ![]⟩
abbrev S8x4096x1 : Shape := ⟨3, ![8, 4096, 1]⟩
abbrev S1x1x1024 : Shape := ⟨3, ![1, 1, 1024]⟩
abbrev S8x4096x3584 : Shape := ⟨3, ![8, 4096, 3584]⟩
abbrev S8x4096x768 : Shape := ⟨3, ![8, 4096, 768]⟩
abbrev S8x4096x256 : Shape := ⟨3, ![8, 4096, 256]⟩
abbrev S8x4096x12x64 : Shape := ⟨4, ![8, 4096, 12, 64]⟩
abbrev S32 : Shape := ⟨1, ![32]⟩
abbrev S1x1x32 : Shape := ⟨3, ![1, 1, 32]⟩
abbrev S8x4096x32 : Shape := ⟨3, ![8, 4096, 32]⟩
abbrev S8x4096x1x32 : Shape := ⟨4, ![8, 4096, 1, 32]⟩
abbrev S8x4096x12x32 : Shape := ⟨4, ![8, 4096, 12, 32]⟩

abbrev nBuf : Space → Nat
  | .hbm => 97
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024, .f32⟩
  | .hbm, ⟨3, _⟩ => ⟨S1024x3584, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x3584, .f32⟩
  | .hbm, ⟨21, _⟩ => ⟨S8x4096x768, .f32⟩
  | .hbm, ⟨22, _⟩ => ⟨S8x4096x768, .f32⟩
  | .hbm, ⟨23, _⟩ => ⟨S8x4096x768, .f32⟩
  | .hbm, ⟨24, _⟩ => ⟨S8x4096x1024, .f32⟩
  | .hbm, ⟨25, _⟩ => ⟨S8x4096x256, .f32⟩
  | .hbm, ⟨26, _⟩ => ⟨S8x4096x12x64, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S8x4096, .f32⟩
  | .hbm, ⟨36, _⟩ => ⟨S8x4096x1, .f32⟩
  | .hbm, ⟨37, _⟩ => ⟨S1x1x32, .f32⟩
  | .hbm, ⟨38, _⟩ => ⟨S8x4096x32, .f32⟩
  | .hbm, ⟨39, _⟩ => ⟨S8x4096x32, .f32⟩
  | .hbm, ⟨40, _⟩ => ⟨S8x4096x32, .f32⟩
  | .hbm, ⟨41, _⟩ => ⟨S8x4096x32, .f32⟩
  | .hbm, ⟨42, _⟩ => ⟨S8x4096x1x32, .f32⟩
  | .hbm, ⟨43, _⟩ => ⟨S8x4096x32, .f32⟩
  | .hbm, ⟨44, _⟩ => ⟨S8x4096x1x32, .f32⟩
  | .hbm, ⟨45, _⟩ => ⟨S8x4096x12x32, .f32⟩
  | .hbm, ⟨46, _⟩ => ⟨S8x4096x12x32, .f32⟩
  | .hbm, ⟨47, _⟩ => ⟨S8x4096x12x32, .f32⟩
  | .hbm, ⟨48, _⟩ => ⟨S8x4096x12x32, .f32⟩
  | .hbm, ⟨49, _⟩ => ⟨S8x4096x12x32, .f32⟩
  | .hbm, ⟨50, _⟩ => ⟨S8x4096x12x32, .f32⟩
  | .hbm, ⟨51, _⟩ => ⟨S8x4096x12x32, .f32⟩
  | .hbm, ⟨52, _⟩ => ⟨S8x4096x12x32, .f32⟩
  | .hbm, ⟨53, _⟩ => ⟨S8x4096x12x32, .f32⟩
  | .hbm, ⟨54, _⟩ => ⟨S8x4096x12x32, .f32⟩
  | .hbm, ⟨55, _⟩ => ⟨S8x4096x12x32, .f32⟩
  | .hbm, ⟨56, _⟩ => ⟨S8x4096x12x32, .f32⟩
  | .hbm, ⟨57, _⟩ => ⟨S8x4096x12x64, .f32⟩
  | .hbm, ⟨58, _⟩ => ⟨S8x4096x768, .f32⟩
  | .hbm, ⟨59, _⟩ => ⟨S8x4096x12x64, .f32⟩
  | .hbm, ⟨60, _⟩ => ⟨S32, .f32⟩
  | .hbm, ⟨61, _⟩ => ⟨S32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S8x4096, .f32⟩
  | .hbm, ⟨69, _⟩ => ⟨S8x4096x1, .f32⟩
  | .hbm, ⟨70, _⟩ => ⟨S1x1x32, .f32⟩
  | .hbm, ⟨71, _⟩ => ⟨S8x4096x32, .f32⟩
  | .hbm, ⟨72, _⟩ => ⟨S8x4096x32, .f32⟩
  | .hbm, ⟨73, _⟩ => ⟨S8x4096x32, .f32⟩
  | .hbm, ⟨74, _⟩ => ⟨S8x4096x32, .f32⟩
  | .hbm, ⟨75, _⟩ => ⟨S8x4096x1x32, .f32⟩
  | .hbm, ⟨76, _⟩ => ⟨S8x4096x32, .f32⟩
  | .hbm, ⟨77, _⟩ => ⟨S8x4096x1x32, .f32⟩
  | .hbm, ⟨78, _⟩ => ⟨S8x4096x12x32, .f32⟩
  | .hbm, ⟨79, _⟩ => ⟨S8x4096x12x32, .f32⟩
  | .hbm, ⟨80, _⟩ => ⟨S8x4096x12x32, .f32⟩
  | .hbm, ⟨81, _⟩ => ⟨S8x4096x12x32, .f32⟩
  | .hbm, ⟨82, _⟩ => ⟨S8x4096x12x32, .f32⟩
  | .hbm, ⟨83, _⟩ => ⟨S8x4096x12x32, .f32⟩
  | .hbm, ⟨84, _⟩ => ⟨S8x4096x12x32, .f32⟩
  | .hbm, ⟨85, _⟩ => ⟨S8x4096x12x32, .f32⟩
  | .hbm, ⟨86, _⟩ => ⟨S8x4096x12x32, .f32⟩
  | .hbm, ⟨87, _⟩ => ⟨S8x4096x12x32, .f32⟩
  | .hbm, ⟨88, _⟩ => ⟨S8x4096x12x32, .f32⟩
  | .hbm, ⟨89, _⟩ => ⟨S8x4096x12x32, .f32⟩
  | .hbm, ⟨90, _⟩ => ⟨S8x4096x12x64, .f32⟩
  | .hbm, ⟨91, _⟩ => ⟨S8x4096x768, .f32⟩
  | .hbm, ⟨92, _⟩ => ⟨S8x4096x768, .bf16⟩
  | .hbm, ⟨93, _⟩ => ⟨S8x4096x768, .bf16⟩
  | .hbm, ⟨94, _⟩ => ⟨S8x4096x768, .bf16⟩
  | .hbm, ⟨95, _⟩ => ⟨S8x4096x1024, .bf16⟩
  | .hbm, ⟨96, _⟩ => ⟨S8x4096x256, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_4 : Ref sig .tc := ⟨.hbm, 62, rfl⟩
abbrev main_v53 : Ref sig .tc := ⟨.hbm, 63, rfl⟩
abbrev main_v54 : Ref sig .tc := ⟨.hbm, 64, rfl⟩
abbrev main_cst_5 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩

abbrev nD : Nat := 1
abbrev τ : Topo := Topo.v7x

variable {F : FTy → Type} [FloatOps F]
-- ==== Kernel5.lean ====
abbrev S8x4096x768 : Shape := ⟨3, ![8, 4096, 768]⟩
abbrev S8x4096x1024 : Shape := ⟨3, ![8, 4096, 1024]⟩
abbrev S8x4096x256 : Shape := ⟨3, ![8, 4096, 256]⟩
abbrev S8x256x512 : Shape := ⟨3, ![8, 256, 512]⟩
abbrev S1024x1024 : Shape := ⟨2, ![1024, 1024]⟩
abbrev S64 : Shape := ⟨1, ![64]⟩
abbrev S768x1024 : Shape := ⟨2, ![768, 1024]⟩
abbrev S256x1024 : Shape := ⟨2, ![256, 1024]⟩
abbrev S1x64 : Shape := ⟨2, ![1, 64]⟩
abbrev S12x64 : Shape := ⟨2, ![12, 64]⟩
abbrev S768 : Shape := ⟨1, ![768]⟩
abbrev S1x768 : Shape := ⟨2, ![1, 768]⟩
abbrev S_ : Shape := ⟨0, ![]⟩
abbrev S1x1024 : Shape := ⟨2, ![1, 1024]⟩
abbrev S1x512x768 : Shape := ⟨3, ![1, 512, 768]⟩
abbrev S1x512x1024 : Shape := ⟨3, ![1, 512, 1024]⟩
abbrev S1x512x256 : Shape := ⟨3, ![1, 512, 256]⟩
abbrev S1x256x512 : Shape := ⟨3, ![1, 256, 512]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S512 : Shape := ⟨1, ![512]⟩
abbrev S512x1 : Shape := ⟨2, ![512, 1]⟩
abbrev S512x1024 : Shape := ⟨2, ![512, 1024]⟩
abbrev S512x768 : Shape := ⟨2, ![512, 768]⟩

abbrev nBuf : Space → Nat
  | .hbm => 17
  | .vmem => 16
  | .smem => 0
  | _ => 0

abbrev bufTy : (tb : Table) → Fin (tcTables nBuf tb) → BufTy
  | .hbm, ⟨0, _⟩ => ⟨S8x4096x768, .bf16⟩
  | .hbm, ⟨1, _⟩ => ⟨S8x4096x1024, .bf16⟩
  | .hbm, ⟨2, _⟩ => ⟨S8x4096x256, .bf16⟩
  | .hbm, ⟨3, _⟩ => ⟨S8x256x512, .bf16⟩
  | .hbm, ⟨4, _⟩ => ⟨S8x4096x1024, .f32⟩
  | .hbm, ⟨5, _⟩ => ⟨S1024x1024, .f32⟩
  | .hbm, ⟨6, _⟩ => ⟨S64, .f32⟩
  | .hbm, ⟨7, _⟩ => ⟨S1024x1024, .bf16⟩
  | .hbm, ⟨8, _⟩ => ⟨S768x1024, .bf16⟩
  | .hbm, ⟨9, _⟩ => ⟨S256x1024, .bf16⟩
  | .hbm, ⟨10, _⟩ => ⟨S1x64, .f32⟩
  | .hbm, ⟨11, _⟩ => ⟨S12x64, .f32⟩
  | .hbm, ⟨12, _⟩ => ⟨S768, .f32⟩
  | .hbm, ⟨13, _⟩ => ⟨S1x768, .f32⟩
  | .hbm, ⟨14, _⟩ => ⟨S_, .f32⟩
  | .hbm, ⟨15, _⟩ => ⟨S1x1024, .f32⟩
  | .hbm, ⟨16, _⟩ => ⟨S8x4096x1024, .f32⟩
  | .local _ .vmem, ⟨0, _⟩ => ⟨S1x512x768, .bf16⟩
  | .local _ .vmem, ⟨1, _⟩ => ⟨S1x512x768, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x256, .bf16⟩
  | .local _ .vmem, ⟨5, _⟩ => ⟨S1x512x256, .bf16⟩
  | .local _ .vmem, ⟨6, _⟩ => ⟨S1x256x512, .bf16⟩
  | .local _ .vmem, ⟨7, _⟩ => ⟨S1x256x512, .bf16⟩
  | .local _ .vmem, ⟨8, _⟩ => ⟨S1x512x1024, .f32⟩
  | .local _ .vmem, ⟨9, _⟩ => ⟨S1x512x1024, .f32⟩
  | .local _ .vmem, ⟨10, _⟩ => ⟨S768x1024, .bf16⟩
  | .local _ .vmem, ⟨11, _⟩ => ⟨S256x1024, .bf16⟩
  | .local _ .vmem, ⟨12, _⟩ => ⟨S1x768, .f32⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | _, _ => ⟨S8x4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S8x4096x768 : Shape := ⟨3, ![8, 4096, 768]⟩
abbrev S8x4096x1024 : Shape := ⟨3, ![8, 4096, 1024]⟩
abbrev S8x4096x256 : Shape := ⟨3, ![8, 4096, 256]⟩
abbrev S8x256x512 : Shape := ⟨3, ![8, 256, 512]⟩
abbrev S1024x1024 : Shape := ⟨2, ![1024, 1024]⟩
abbrev S64 : Shape := ⟨1, ![64]⟩
abbrev S8x256x256 : Shape := ⟨3, ![8, 256, 256]⟩
abbrev S8x256x4x64 : Shape := ⟨4, ![8, 256, 4, 64]⟩
abbrev S8x4096x4x64 : Shape := ⟨4, ![8, 4096, 4, 64]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S8x4096x12x64 : Shape := ⟨4, ![8, 4096, 12, 64]⟩
abbrev S8x4096x12 : Shape := ⟨3, ![8, 4096, 12]⟩
abbrev S8x4096x12x1 : Shape := ⟨4, ![8, 4096, 12, 1]⟩
abbrev S1x1x1x64 : Shape := ⟨4, ![1, 1, 1, 64]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x768, .bf16⟩
  | .hbm, ⟨1, _⟩ => ⟨S8x4096x1024, .bf16⟩
  | .hbm, ⟨2, _⟩ => ⟨S8x4096x256, .bf16⟩
  | .hbm, ⟨3, _⟩ => ⟨S8x256x512, .bf16⟩
  | .hbm, ⟨4, _⟩ => ⟨S8x4096x1024, .f32⟩
  | .hbm, ⟨5, _⟩ => ⟨S1024x1024, .f32⟩
  | .hbm, ⟨6, _⟩ => ⟨S64, .f32⟩
  | .hbm, ⟨7, _⟩ => ⟨S8x256x512, .f32⟩
  | .hbm, ⟨8, _⟩ => ⟨S8x256x256, .f32⟩
  | .hbm, ⟨9, _⟩ => ⟨S8x256x256, .f32⟩
  | .hbm, ⟨10, _⟩ => ⟨S8x256x4x64, .f32⟩
  | .hbm, ⟨11, _⟩ => ⟨S8x256x4x64, .f32⟩
  | .hbm, ⟨12, _⟩ => ⟨S8x4096x256, .f32⟩
  | .hbm, ⟨13, _⟩ => ⟨S8x4096x4x64, .f32⟩
  | .hbm, ⟨14, _⟩ => ⟨S8x4x4096x256, .f32⟩
  | .hbm, ⟨15, _⟩ => ⟨S_, .f32⟩
  | .hbm, ⟨16, _⟩ => ⟨S8x4x4096x256, .f32⟩
  | .hbm, ⟨17, _⟩ => ⟨S8x4x4096x256, .f32⟩
  | .hbm, ⟨18, _⟩ => ⟨S_, .f32⟩
  | .hbm, ⟨19, _⟩ => ⟨S8x4x4096, .f32⟩
  | .hbm, ⟨20, _⟩ => ⟨S_, .f32⟩
  | .hbm, ⟨21, _⟩ => ⟨S8x4x4096, .f32⟩
  | .hbm, ⟨22, _⟩ => ⟨S8x4x4096, .f32⟩
  | .hbm, ⟨23, _⟩ => ⟨S8x4x4096x1, .f32⟩
  | .hbm, ⟨24, _⟩ => ⟨S8x4x4096x256, .f32⟩
  | .hbm, ⟨25, _⟩ => ⟨S8x4x4096x256, .f32⟩
  | .hbm, ⟨26, _⟩ => ⟨S8x4x4096x256, .f32⟩
  | .hbm, ⟨27, _⟩ => ⟨S_, .f32⟩
  | .hbm, ⟨28, _⟩ => ⟨S8x4x4096, .f32⟩
  | .hbm, ⟨29, _⟩ => ⟨S8x4x4096x1, .f32⟩
  | .hbm, ⟨30, _⟩ => ⟨S8x4x4096x256, .f32⟩
  | .hbm, ⟨31, _⟩ => ⟨S8x4x4096x256, .f32⟩
  | .hbm, ⟨32, _⟩ => ⟨S8x4x64x4096, .f32⟩
  | .hbm, ⟨33, _⟩ => ⟨S8x4096x4x64, .f32⟩
  | .hbm, ⟨34, _⟩ => ⟨S8x4096x256, .f32⟩
  | .hbm, ⟨35, _⟩ => ⟨S8x4096x768, .f32⟩
  | .hbm, ⟨36, _⟩ => ⟨S8x4096x12x64, .f32⟩
  | .hbm, ⟨37, _⟩ => ⟨S8x4096x12x64, .f32⟩
  | .hbm, ⟨38, _⟩ => ⟨S_, .f32⟩
  | .hbm, ⟨39, _⟩ => ⟨S8x4096x12, .f32⟩
  | .hbm, ⟨40, _⟩ => ⟨S8x4096x12x1, .f32⟩
  | .hbm, ⟨41, _⟩ => ⟨S_, .f32⟩
  | .hbm, ⟨42, _⟩ => ⟨S8x4096x12x1, .f32⟩
  | .hbm, ⟨43, _⟩ => ⟨S8x4096x12x1, .f32⟩
  | .hbm, ⟨44, _⟩ => ⟨S_, .f32⟩
  | .hbm, ⟨45, _⟩ => ⟨S8x4096x12x1, .f32⟩
  | .hbm, ⟨46, _⟩ => ⟨S8x4096x12x1, .f32⟩
  | .hbm, ⟨47, _⟩ => ⟨S8x4096x12x1, .f32⟩
  | .hbm, ⟨48, _⟩ => ⟨S8x4096x12x64, .f32⟩
  | .hbm, ⟨49, _⟩ => ⟨S8x4096x12x64, .f32⟩
  | .hbm, ⟨50, _⟩ => ⟨S1x1x1x64, .f32⟩
  | .hbm, ⟨51, _⟩ => ⟨S8x4096x12x64, .f32⟩
  | .hbm, ⟨52, _⟩ => ⟨S8x4096x12x64, .f32⟩
  | .hbm, ⟨53, _⟩ => ⟨S8x4096x768, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S_, .f32⟩
  | .hbm, ⟨59, _⟩ => ⟨S8x4096x1024, .f32⟩
  | .hbm, ⟨60, _⟩ => ⟨S8x4096x1024, .f32⟩
  | .hbm, ⟨61, _⟩ => ⟨S_, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | _, _ => ⟨S8x4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Kernel6.lean ====
abbrev S8x256x1024 : Shape := ⟨3, ![8, 256, 1024]⟩
abbrev S1024 : Shape := ⟨1, ![1024]⟩
abbrev S1024x512 : Shape := ⟨2, ![1024, 512]⟩
abbrev S1x1024 : Shape := ⟨2, ![1, 1024]⟩
abbrev S8x256x512 : Shape := ⟨3, ![8, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 11
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S1x1024, .f32⟩
  | .hbm, ⟨6, _⟩ => ⟨S1024x512, .bf16⟩
  | .hbm, ⟨7, _⟩ => ⟨S1x1024, .f32⟩
  | .hbm, ⟨8, _⟩ => ⟨S1024x512, .bf16⟩
  | .hbm, ⟨9, _⟩ => ⟨S8x256x512, .bf16⟩
  | .hbm, ⟨10, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x512, .bf16⟩
  | .local _ .vmem, ⟨4, _⟩ => ⟨S1x1024, .f32⟩
  | .local _ .vmem, ⟨5, _⟩ => ⟨S1024x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S8x256x1024 : Shape := ⟨3, ![8, 256, 1024]⟩
abbrev S1024 : Shape := ⟨1, ![1024]⟩
abbrev S1024x512 : Shape := ⟨2, ![1024, 512]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩

abbrev nBuf : Space → Nat
  | .hbm => 41
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S8x256x512, .f32⟩
  | .hbm, ⟨22, _⟩ => ⟨S8x256x512, .bf16⟩
  | .hbm, ⟨23, _⟩ => ⟨S8x256x1024, .f32⟩
  | .hbm, ⟨24, _⟩ => ⟨S_, .f32⟩
  | .hbm, ⟨25, _⟩ => ⟨S8x256, .f32⟩
  | .hbm, ⟨26, _⟩ => ⟨S8x256x1, .f32⟩
  | .hbm, ⟨27, _⟩ => ⟨S_, .f32⟩
  | .hbm, ⟨28, _⟩ => ⟨S8x256x1, .f32⟩
  | .hbm, ⟨29, _⟩ => ⟨S8x256x1, .f32⟩
  | .hbm, ⟨30, _⟩ => ⟨S_, .f32⟩
  | .hbm, ⟨31, _⟩ => ⟨S8x256x1, .f32⟩
  | .hbm, ⟨32, _⟩ => ⟨S8x256x1, .f32⟩
  | .hbm, ⟨33, _⟩ => ⟨S8x256x1, .f32⟩
  | .hbm, ⟨34, _⟩ => ⟨S8x256x1024, .f32⟩
  | .hbm, ⟨35, _⟩ => ⟨S8x256x1024, .f32⟩
  | .hbm, ⟨36, _⟩ => ⟨S1x1x1024, .f32⟩
  | .hbm, ⟨37, _⟩ => ⟨S8x256x1024, .f32⟩
  | .hbm, ⟨38, _⟩ => ⟨S8x256x1024, .f32⟩
  | .hbm, ⟨39, _⟩ => ⟨S8x256x512, .f32⟩
  | .hbm, ⟨40, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel7.lean ====
abbrev S8x4096x2304 : Shape := ⟨3, ![8, 4096, 2304]⟩
abbrev S8x4096x128 : Shape := ⟨3, ![8, 4096, 128]⟩
abbrev S4x2304 : Shape := ⟨2, ![4, 2304]⟩
abbrev S12 : Shape := ⟨1, ![12]⟩
abbrev S_ : Shape := ⟨0, ![]⟩
abbrev S128 : Shape := ⟨1, ![128]⟩
abbrev S1x128 : Shape := ⟨2, ![1, 128]⟩
abbrev S8x4096x768 : Shape := ⟨3, ![8, 4096, 768]⟩
abbrev S1x4096x128 : Shape := ⟨3, ![1, 4096, 128]⟩
abbrev S4x128 : Shape := ⟨2, ![4, 128]⟩
abbrev S3x1032x128 : Shape := ⟨3, ![3, 1032, 128]⟩
abbrev S32x128x128 : Shape := ⟨3, ![32, 128, 128]⟩
abbrev S32x128 : Shape := ⟨2, ![32, 128]⟩
abbrev S128x128 : Shape := ⟨2, ![128, 128]⟩
abbrev S128x256 : Shape := ⟨2, ![128, 256]⟩
abbrev S3x8x128 : Shape := ⟨3, ![3, 8, 128]⟩
abbrev S1x1024x128 : Shape := ⟨3, ![1, 1024, 128]⟩
abbrev S1024x128 : Shape := ⟨2, ![1024, 128]⟩
abbrev S8x128 : Shape := ⟨2, ![8, 128]⟩
abbrev S1x8x128 : Shape := ⟨3, ![1, 8, 128]⟩
abbrev S1024x256 : Shape := ⟨2, ![1024, 256]⟩
abbrev S128x1 : Shape := ⟨2, ![128, 1]⟩
abbrev S512x128 : Shape := ⟨2, ![512, 128]⟩
abbrev S256x128 : Shape := ⟨2, ![256, 128]⟩
abbrev S16x128 : Shape := ⟨2, ![16, 128]⟩
abbrev S64x128 : Shape := ⟨2, ![64, 128]⟩
abbrev S1x128x128 : Shape := ⟨3, ![1, 128, 128]⟩

abbrev nBuf : Space → Nat
  | .hbm => 14
  | .vmem => 24
  | .smem => 0
  | _ => 0

abbrev bufTy : (tb : Table) → Fin (tcTables nBuf tb) → BufTy
  | .hbm, ⟨0, _⟩ => ⟨S8x4096x2304, .bf16⟩
  | .hbm, ⟨1, _⟩ => ⟨S8x4096x128, .f32⟩
  | .hbm, ⟨2, _⟩ => ⟨S4x2304, .f32⟩
  | .hbm, ⟨3, _⟩ => ⟨S12, .f32⟩
  | .hbm, ⟨4, _⟩ => ⟨S12, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S8x4096x768, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .f32⟩
  | .local _ .vmem, ⟨7, _⟩ => ⟨S1x4096x128, .f32⟩
  | .local _ .vmem, ⟨8, _⟩ => ⟨S4x128, .f32⟩
  | .local _ .vmem, ⟨9, _⟩ => ⟨S4x128, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S1x128, .f32⟩
  | .local _ .vmem, ⟨15, _⟩ => ⟨S1x128, .f32⟩
  | .local _ .vmem, ⟨16, _⟩ => ⟨S1x4096x128, .bf16⟩
  | .local _ .vmem, ⟨17, _⟩ => ⟨S1x4096x128, .bf16⟩
  | .local _ .vmem, ⟨18, _⟩ => ⟨S3x1032x128, .f32⟩
  | .local _ .vmem, ⟨19, _⟩ => ⟨S32x128x128, .bf16⟩
  | .local _ .vmem, ⟨20, _⟩ => ⟨S32x128x128, .bf16⟩
  | .local _ .vmem, ⟨21, _⟩ => ⟨S32x128x128, .f32⟩
  | .local _ .vmem, ⟨22, _⟩ => ⟨S32x128x128, .f32⟩
  | .local _ .vmem, ⟨23, _⟩ => ⟨S32x128, .f32⟩
  | _, _ => ⟨S8x4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 6], ![false, false]⟩

def k0_mult1 : BitVec 32 :=
  let c0_i32_14 : BitVec 32 := 0#32
  c0_i32_14
@[reducible] def k0_t1_loop : Scf.Loop 32 :=
  let c1_i32_608 : BitVec 32 := 1#32
  let c3_i32 : BitVec 32 := 3#32
  let v2535 : BitVec 32 := Scalar.addi c1_i32_608 c3_i32
  let c1_i32_609 : BitVec 32 := 1#32
  ⟨c1_i32_608, v2535, c1_i32_609⟩
def k0_mult2 (k0_t1 : Fin k0_t1_loop.trips) : BitVec 32 :=
  let c1_i32_608 : BitVec 32 := 1#32
  let c1_i32_609 : BitVec 32 := 1#32
  let arg18 : BitVec 32 := Scf.iv c1_i32_608 c1_i32_609 k0_t1
  let c1024_i32 : BitVec 32 := 1024#32
  let v2539 : BitVec 32 := Scalar.muli arg18 c1024_i32
  v2539
def k0_off1 (k0_t1 : Fin k0_t1_loop.trips) : Fin 3 → Nat :=
  let c0_613 : Index := 0#32
  let c1_i32_608 : BitVec 32 := 1#32
  let c1_i32_609 : BitVec 32 := 1#32
  let arg18 : BitVec 32 := Scf.iv c1_i32_608 c1_i32_609 k0_t1
  let c1024_i32 : BitVec 32 := 1024#32
  let v2539 : BitVec 32 := Scalar.muli arg18 c1024_i32
  let v2540 : BitVec 32 := v2539
  let v2541 : Index := Scalar.indexCast v2540
  let c0_614 : Index := 0#32
  ![0, v2541.toNat, 0]
def k0_off2 (k0_t1 : Fin k0_t1_loop.trips) (c0_i32_720 : BitVec 32) : Fin 3 → Nat :=
  let c1_i32_608 : BitVec 32 := 1#32
  let c1_i32_609 : BitVec 32 := 1#32
  let arg18 : BitVec 32 := Scf.iv c1_i32_608 c1_i32_609 k0_t1
  let c1_i32_718 : BitVec 32 := 1#32
  let v2732 : BitVec 32 := Scalar.subi arg18 c1_i32_718
  let c8_i32_719 : BitVec 32 := 8#32
  let v2733 : BitVec 32 := Scalar.muli v2732 c8_i32_719
  let v2734 : BitVec 32 := Scalar.addi v2733 c0_i32_720
  let v2736 : Index := Scalar.indexCast v2734
  let c0_721 : Index := 0#32
  let c0_722 : Index := 0#32
  ![v2736.toNat, 0, 0]
def k0_off3 (k0_t1 : Fin k0_t1_loop.trips) (c0_i32_720 : BitVec 32) : Fin 2 → Nat :=
  let c1_i32_608 : BitVec 32 := 1#32
  let c1_i32_609 : BitVec 32 := 1#32
  let arg18 : BitVec 32 := Scf.iv c1_i32_608 c1_i32_609 k0_t1
  let c1_i32_718 : BitVec 32 := 1#32
  let v2732 : BitVec 32 := Scalar.subi arg18 c1_i32_718
  let c8_i32_719 : BitVec 32 := 8#32
  let v2733 : BitVec 32 := Scalar.muli v2732 c8_i32_719
  let v2734 : BitVec 32 := Scalar.addi v2733 c0_i32_720
  let v2744 : Index := Scalar.indexCast v2734
  let c0_726 : Index := 0#32
  ![v2744.toNat, 0]
def k0_mult3 (k0_t1 : Fin k0_t1_loop.trips) : BitVec 32 :=
  let c1_i32_608 : BitVec 32 := 1#32
  let c1_i32_609 : BitVec 32 := 1#32
  let arg18 : BitVec 32 := Scf.iv c1_i32_608 c1_i32_609 k0_t1
  let c1_i32_718 : BitVec 32 := 1#32
  let v2732 : BitVec 32 := Scalar.subi arg18 c1_i32_718
  let c8_i32_719 : BitVec 32 := 8#32
  let v2733 : BitVec 32 := Scalar.muli v2732 c8_i32_719
  let c0_i32_720 : BitVec 32 := 0#32
  let v2734 : BitVec 32 := Scalar.addi v2733 c0_i32_720
  let c128_i32_732 : BitVec 32 := 128#32
  let v2758 : BitVec 32 := Scalar.muli v2734 c128_i32_732
  v2758
def k0_off4 (k0_t1 : Fin k0_t1_loop.trips) (c0_i32_720 : BitVec 32) : Fin 3 → Nat :=
  let c0_733 : Index := 0#32
  let c1_i32_608 : BitVec 32 := 1#32
  let c1_i32_609 : BitVec 32 := 1#32
  let arg18 : BitVec 32 := Scf.iv c1_i32_608 c1_i32_609 k0_t1
  let c1_i32_718 : BitVec 32 := 1#32
  let v2732 : BitVec 32 := Scalar.subi arg18 c1_i32_718
  let c8_i32_719 : BitVec 32 := 8#32
  let v2733 : BitVec 32 := Scalar.muli v2732 c8_i32_719
  let v2734 : BitVec 32 := Scalar.addi v2733 c0_i32_720
  let c128_i32_732 : BitVec 32 := 128#32
  let v2758 : BitVec 32 := Scalar.muli v2734 c128_i32_732
  let v2759 : BitVec 32 := v2758
  let v2760 : Index := Scalar.indexCast v2759
  let c0_734 : Index := 0#32
  ![0, v2760.toNat, 0]
def k0_mult4 (k0_t1 : Fin k0_t1_loop.trips) : BitVec 32 :=
  let c1_i32_608 : BitVec 32 := 1#32
  let c1_i32_609 : BitVec 32 := 1#32
  let arg18 : BitVec 32 := Scf.iv c1_i32_608 c1_i32_609 k0_t1
  let c1_i32_775 : BitVec 32 := 1#32
  let v3092 : BitVec 32 := Scalar.subi arg18 c1_i32_775
  let c8_i32_776 : BitVec 32 := 8#32
  let v3093 : BitVec 32 := Scalar.muli v3092 c8_i32_776
  let c1_i32_777 : BitVec 32 := 1#32
  let v3094 : BitVec 32 := Scalar.addi v3093 c1_i32_777
  let c128_i32_789 : BitVec 32 := 128#32
  let v3118 : BitVec 32 := Scalar.muli v3094 c128_i32_789
  v3118
def k0_mult5 (k0_t1 : Fin k0_t1_loop.trips) : BitVec 32 :=
  let c1_i32_608 : BitVec 32 := 1#32
  let c1_i32_609 : BitVec 32 := 1#32
  let arg18 : BitVec 32 := Scf.iv c1_i32_608 c1_i32_609 k0_t1
  let c1_i32_874 : BitVec 32 := 1#32
  let v3385 : BitVec 32 := Scalar.subi arg18 c1_i32_874
  let c8_i32_875 : BitVec 32 := 8#32
  let v3386 : BitVec 32 := Scalar.muli v3385 c8_i32_875
  let c2_i32_876 : BitVec 32 := 2#32
  let v3387 : BitVec 32 := Scalar.addi v3386 c2_i32_876
  let c128_i32_888 : BitVec 32 := 128#32
  let v3411 : BitVec 32 := Scalar.muli v3387 c128_i32_888
  v3411
def k0_mult6 (k0_t1 : Fin k0_t1_loop.trips) : BitVec 32 :=
  let c1_i32_608 : BitVec 32 := 1#32
  let c1_i32_609 : BitVec 32 := 1#32
  let arg18 : BitVec 32 := Scf.iv c1_i32_608 c1_i32_609 k0_t1
  let c1_i32_907 : BitVec 32 := 1#32
  let v3481 : BitVec 32 := Scalar.subi arg18 c1_i32_907
  let c8_i32_908 : BitVec 32 := 8#32
  let v3482 : BitVec 32 := Scalar.muli v3481 c8_i32_908
  let c3_i32_909 : BitVec 32 := 3#32
  let v3483 : BitVec 32 := Scalar.addi v3482 c3_i32_909
  let c128_i32_921 : BitVec 32 := 128#32
  let v3507 : BitVec 32 := Scalar.muli v3483 c128_i32_921
  v3507
def k0_mult7 (k0_t1 : Fin k0_t1_loop.trips) : BitVec 32 :=
  let c1_i32_608 : BitVec 32 := 1#32
  let c1_i32_609 : BitVec 32 := 1#32
  let arg18 : BitVec 32 := Scf.iv c1_i32_608 c1_i32_609 k0_t1
  let c1_i32_940 : BitVec 32 := 1#32
  let v3625 : BitVec 32 := Scalar.subi arg18 c1_i32_940
  let c8_i32_941 : BitVec 32 := 8#32
  let v3626 : BitVec 32 := Scalar.muli v3625 c8_i32_941
  let c4_i32_942 : BitVec 32 := 4#32
  let v3627 : BitVec 32 := Scalar.addi v3626 c4_i32_942
  let c128_i32_954 : BitVec 32 := 128#32
  let v3651 : BitVec 32 := Scalar.muli v3627 c128_i32_954
  v3651
def k0_mult8 (k0_t1 : Fin k0_t1_loop.trips) : BitVec 32 :=
  let c1_i32_608 : BitVec 32 := 1#32
  let c1_i32_609 : BitVec 32 := 1#32
  let arg18 : BitVec 32 := Scf.iv c1_i32_608 c1_i32_609 k0_t1
  let c1_i32_973 : BitVec 32 := 1#32
  let v3769 : BitVec 32 := Scalar.subi arg18 c1_i32_973
  let c8_i32_974 : BitVec 32 := 8#32
  let v3770 : BitVec 32 := Scalar.muli v3769 c8_i32_974
  let c5_i32_975 : BitVec 32 := 5#32
  let v3771 : BitVec 32 := Scalar.addi v3770 c5_i32_975
  let c128_i32_987 : BitVec 32 := 128#32
  let v3795 : BitVec 32 := Scalar.muli v3771 c128_i32_987
  v3795
def k0_mult9 (k0_t1 : Fin k0_t1_loop.trips) : BitVec 32 :=
  let c1_i32_608 : BitVec 32 := 1#32
  let c1_i32_609 : BitVec 32 := 1#32
  let arg18 : BitVec 32 := Scf.iv c1_i32_608 c1_i32_609 k0_t1
  let c1_i32_1030 : BitVec 32 := 1#32
  let v3980 : BitVec 32 := Scalar.subi arg18 c1_i32_1030
  let c8_i32_1031 : BitVec 32 := 8#32
  let v3981 : BitVec 32 := Scalar.muli v3980 c8_i32_1031
  let c6_i32_1032 : BitVec 32 := 6#32
  let v3982 : BitVec 32 := Scalar.addi v3981 c6_i32_1032
  let c128_i32_1044 : BitVec 32 := 128#32
  let v4006 : BitVec 32 := Scalar.muli v3982 c128_i32_1044
  v4006
def k0_mult10 (k0_t1 : Fin k0_t1_loop.trips) : BitVec 32 :=
  let c1_i32_608 : BitVec 32 := 1#32
  let c1_i32_609 : BitVec 32 := 1#32
  let arg18 : BitVec 32 := Scf.iv c1_i32_608 c1_i32_609 k0_t1
  let c1_i32_1063 : BitVec 32 := 1#32
  let v4076 : BitVec 32 := Scalar.subi arg18 c1_i32_1063
  let c8_i32_1064 : BitVec 32 := 8#32
  let v4077 : BitVec 32 := Scalar.muli v4076 c8_i32_1064
  let c7_i32_1065 : BitVec 32 := 7#32
  let v4078 : BitVec 32 := Scalar.addi v4077 c7_i32_1065
  let c128_i32_1077 : BitVec 32 := 128#32
  let v4102 : BitVec 32 := Scalar.muli v4078 c128_i32_1077
  v4102
def k0_off5 (k0_t1 : Fin k0_t1_loop.trips) (c0_i32_1233 : BitVec 32) : Fin 3 → Nat :=
  let c1_i32_608 : BitVec 32 := 1#32
  let c1_i32_609 : BitVec 32 := 1#32
  let arg18 : BitVec 32 := Scf.iv c1_i32_608 c1_i32_609 k0_t1
  let c8_i32_1232 : BitVec 32 := 8#32
  let v5018 : BitVec 32 := Scalar.muli arg18 c8_i32_1232
  let v5019 : BitVec 32 := Scalar.addi v5018 c0_i32_1233
  let v5024 : Index := Scalar.indexCast v5019
  let c0_1234 : Index := 0#32
  let c0_1235 : Index := 0#32
  ![v5024.toNat, 0, 0]
def k0_off6 (k0_t1 : Fin k0_t1_loop.trips) (c0_i32_1233 : BitVec 32) : Fin 2 → Nat :=
  let c1_i32_608 : BitVec 32 := 1#32
  let c1_i32_609 : BitVec 32 := 1#32
  let arg18 : BitVec 32 := Scf.iv c1_i32_608 c1_i32_609 k0_t1
  let c8_i32_1232 : BitVec 32 := 8#32
  let v5018 : BitVec 32 := Scalar.muli arg18 c8_i32_1232
  let v5019 : BitVec 32 := Scalar.addi v5018 c0_i32_1233
  let v5052 : Index := Scalar.indexCast v5019
  let c0_1243 : Index := 0#32
  ![v5052.toNat, 0]
@[reducible] def k0_t2_loop : Scf.Loop 32 :=
  let c24_i32 : BitVec 32 := 24#32
  let c8_i32 : BitVec 32 := 8#32
  let v2537 : BitVec 32 := Scalar.addi c24_i32 c8_i32
  let c1_i32_611 : BitVec 32 := 1#32
  ⟨c24_i32, v2537, c1_i32_611⟩
def k0_off7 (k0_t2 : Fin k0_t2_loop.trips) : Fin 3 → Nat :=
  let c24_i32 : BitVec 32 := 24#32
  let c1_i32_611 : BitVec 32 := 1#32
  let arg18 : BitVec 32 := Scf.iv c24_i32 c1_i32_611 k0_t2
  let v2540 : Index := Scalar.indexCast arg18
  let c0_613 : Index := 0#32
  let c0_614 : Index := 0#32
  ![v2540.toNat, 0, 0]
def k0_off8 (k0_t2 : Fin k0_t2_loop.trips) : Fin 2 → Nat :=
  let c24_i32 : BitVec 32 := 24#32
  let c1_i32_611 : BitVec 32 := 1#32
  let arg18 : BitVec 32 := Scf.iv c24_i32 c1_i32_611 k0_t2
  let v2548 : Index := Scalar.indexCast arg18
  let c0_618 : Index := 0#32
  ![v2548.toNat, 0]
def k0_mult11 (k0_t2 : Fin k0_t2_loop.trips) : BitVec 32 :=
  let c24_i32 : BitVec 32 := 24#32
  let c1_i32_611 : BitVec 32 := 1#32
  let arg18 : BitVec 32 := Scf.iv c24_i32 c1_i32_611 k0_t2
  let c128_i32_624 : BitVec 32 := 128#32
  let v2562 : BitVec 32 := Scalar.muli arg18 c128_i32_624
  v2562
def k0_off9 (k0_t2 : Fin k0_t2_loop.trips) : Fin 3 → Nat :=
  let c0_625 : Index := 0#32
  let c24_i32 : BitVec 32 := 24#32
  let c1_i32_611 : BitVec 32 := 1#32
  let arg18 : BitVec 32 := Scf.iv c24_i32 c1_i32_611 k0_t2
  let c128_i32_624 : BitVec 32 := 128#32
  let v2562 : BitVec 32 := Scalar.muli arg18 c128_i32_624
  let v2563 : BitVec 32 := v2562
  let v2564 : Index := Scalar.indexCast v2563
  let c0_626 : Index := 0#32
  ![0, v2564.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proof.OutprojRef.lean ====
module

public import proofs.«01_k».proof.Proof.Gen.Reference2Ideal.Run
public import Idealize.ShloMosaic.Lib.Claim
public import Idealize.ShloMosaic.Lib.Pointwise

/-! The reference of the output projection, cut into named stages. -/

@[expose] public section

set_option maxRecDepth 16384

noncomputable section

namespace Cert.Outproj

open Idealize.ShloMosaic Idealize.ShloMosaic.TcCoe Idealize.SL.Sem
open Cert.Reference2Ideal Cert.Reference2Ideal.Gen

/-- The scaled products of each query with the keys of its head. -/
def logits (mq : FVec Ideal S8x4096x256 .bf16) (mkv : FVec Ideal S8x256x512 .bf16) : FVec Ideal S8x4x4096x256 .f32 :=
  mulf (Host.dotGeneral dot_S8x4096x4x64_S8x256x4x64_S8x4x4096x256_3_3_1_1_02_02 none
      (shapeCast _ (extf .f32 mq bitsLt_bf16_f32) shapeCasts_S8x4096x256_S8x4096x4x64)
      (shapeCast _ (extractStridedSlice S8x256x256 ![0, 0, 0] (extf .f32 mkv bitsLt_bf16_f32) slices_S8x256x512_S8x256x256_0_0_0) shapeCasts_S8x256x256_S8x256x4x64))
    (broadcastInDim S8x4x4096x256 ![] bcast_S_S8x4x4096x256 (constant S_ .f32 0x3E000000#32))

/-- The largest logit of each row. -/
def peak (lg : FVec Ideal S8x4x4096x256 .f32) : FVec Ideal S8x4x4096 .f32 :=
  maximumf (broadcastInDim S8x4x4096 ![] bcast_S_S8x4x4096 (constant S_ .f32 0xFF800000#32))
    (Host.reduce FloatOps.maximumf lg (constant S_ .f32 0xFF800000#32) reducesTo_S8x4x4096x256_S8x4x4096_d3 h_S_)

/-- The exponentials of the logits below their row's largest. -/
def weight (lg : FVec Ideal S8x4x4096x256 .f32) : FVec Ideal S8x4x4096x256 .f32 :=
  Host.exp (subf lg (broadcastInDim S8x4x4096x256 ![0, 1, 2, 3] bcast_S8x4x4096x1_S8x4x4096x256_0_1_2_3
    (broadcastInDim S8x4x4096x1 ![0, 1, 2] bcast_S8x4x4096_S8x4x4096x1_0_1_2 (peak lg))))

/-- The sum of a row's weights. -/
def total (e : FVec Ideal S8x4x4096x256 .f32) : FVec Ideal S8x4x4096 .f32 :=
  Host.reduceAdd e (constant S_ .f32 0x00000000#32) reducesTo_S8x4x4096x256_S8x4x4096_d3 h_S_

/-- The weights of a row divided by their sum. -/
def probs (e : FVec Ideal S8x4x4096x256 .f32) : FVec Ideal S8x4x4096x256 .f32 :=
  Host.divf e (broadcastInDim S8x4x4096x256 ![0, 1, 2, 3] bcast_S8x4x4096x1_S8x4x4096x256_0_1_2_3
    (broadcastInDim S8x4x4096x1 ![0, 1, 2] bcast_S8x4x4096_S8x4x4096x1_0_1_2 (total e)))

/-- The memory attention: the values averaged by the weights, heads side by side. -/
def memo (mkv : FVec Ideal S8x256x512 .bf16) (p : FVec Ideal S8x4x4096x256 .f32) : FVec Ideal S8x4096x256 .f32 :=
  shapeCast _ (transpose S8x4096x4x64 [0, 3, 1, 2]
    (Host.dotGeneral dot_S8x256x4x64_S8x4x4096x256_S8x4x64x4096_1_3_3_2_02_01 none
      (shapeCast _ (extractStridedSlice S8x256x256 ![0, 0, 256] (extf .f32 mkv bitsLt_bf16_f32) slices_S8x256x512_S8x256x256_0_0_256) shapeCasts_S8x256x256_S8x256x4x64) p)
    transposes_S8x4x64x4096_S8x4096x4x64_0_3_1_2) shapeCasts_S8x4096x4x64_S8x4096x256

/-- `z` times its logistic function. -/
def gate (z : FVec Ideal S8x4096x1024 .bf16) : FVec Ideal S8x4096x1024 .f32 :=
  mulf (extf .f32 z bitsLt_bf16_f32) (Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf (extf .f32 z bitsLt_bf16_f32)))))

/-- The residual stream plus the projection of the gated mixer and memory outputs. -/
def resid (mix : FVec Ideal S8x4096x768 .bf16) (mo : FVec Ideal S8x4096x256 .f32) (g h : FVec Ideal S8x4096x1024 .f32)
    (w : FVec Ideal S1024x1024 .f32) : FVec Ideal S8x4096x1024 .f32 :=
  addf h (Host.dotGeneral dot_S8x4096x1024_S1024x1024_S8x4096x1024_2_0_01_1_n_n none
    (mulf (concatenate S8x4096x1024 2 [⟨S8x4096x768, (extf .f32 mix bitsLt_bf16_f32)⟩, ⟨S8x4096x256, mo⟩] concatenates_S8x4096x768_S8x4096x256_S8x4096x1024_d2) g) w)

/-- The root-mean-square normalisation of the rows of `x`, scaled by `fn`. -/
def normed (x : FVec Ideal S8x4096x1024 .f32) (fn : FVec Ideal S1024 .f32) : FVec Ideal S8x4096x1024 .f32 :=
  mulf (mulf x (broadcastInDim S8x4096x1024 ![0, 1, 2] bcast_S8x4096x1_S8x4096x1024_0_1_2
    (Host.rsqrt (addf (Host.divf (broadcastInDim S8x4096x1 ![0, 1] bcast_S8x4096_S8x4096x1_0_1
        (Host.reduceAdd (mulf x x) (constant S_ .f32 0x00000000#32) reducesTo_S8x4096x1024_S8x4096_d2 h_S_))
      (broadcastInDim S8x4096x1 ![] bcast_S_S8x4096x1 (constant S_ .f32 0x44800000#32)))
      (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 fn))

/-- The whole reference. -/
def whole (mix : FVec Ideal S8x4096x768 .bf16) (z : FVec Ideal S8x4096x1024 .bf16) (mq : FVec Ideal S8x4096x256 .bf16)
    (mkv : FVec Ideal S8x256x512 .bf16) (h : FVec Ideal S8x4096x1024 .f32) (w : FVec Ideal S1024x1024 .f32)
    (fn : FVec Ideal S1024 .f32) : FVec Ideal S8x4096x1024 .f32 :=
  normed (resid mix (memo mkv (probs (weight (logits mq mkv)))) (gate z) h w) fn

set_option maxHeartbeats 1000000 in
/-- The reference's result is the composition of the stages. -/
theorem whole_eq (m : (ℓ : Loc nD τ sig) → Buf (Elt Ideal) ℓ) (c : Dev nD) :
    Value.res_out0 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-- A logit: the product of a query with a key over the 64 features of a head, times `1/8`. -/
theorem logits_at (mq : FVec Ideal S8x4096x256 .bf16) (mkv : FVec Ideal S8x256x512 .bf16) (b : Fin 8) (hd : Fin 4) (s : Fin 4096) (n : Fin 256) :
    logits mq mkv (ix4 b hd s n) = (∑ d : Fin 64, mq (ix3 b s ⟨hd * 64 + d, by omega⟩) * mkv (ix3 b n ⟨hd * 64 + d, by omega⟩))
      * Ideal.ofBits .f32 0x3E000000#32 := by
  pointwise [logits]

theorem neg_inf : Ideal.ofBits .f32 0xFF800000#32 = ⊥ := by simp [Ideal.ofBits, Ideal.ieee]

theorem max_at (lg : FVec Ideal S8x4x4096x256 .f32) (c : FVec Ideal S_ .f32) (b : Fin 8) (hd : Fin 4) (s : Fin 4096) :
    Host.reduce FloatOps.maximumf lg c reducesTo_S8x4x4096x256_S8x4x4096_d3 h_S_ (ix3 b hd s)
      = Finset.univ.fold max (c (Shape.Idx.first h_S_)) fun n => lg (ix4 b hd s n) := by
  simp only [pointwise]

theorem maximumf_at (x y : FVec Ideal S8x4x4096 .f32) (i : S8x4x4096.Idx) : maximumf x y i = max (x i) (y i) := rfl

theorem floor_at (i : S8x4x4096.Idx) :
    broadcastInDim S8x4x4096 ![] bcast_S_S8x4x4096 (constant (F := Ideal) S_ .f32 0xFF800000#32) i = ⊥ := neg_inf

theorem peak_at (lg : FVec Ideal S8x4x4096x256 .f32) (b : Fin 8) (hd : Fin 4) (s : Fin 4096) :
    peak lg (ix3 b hd s) = Finset.univ.sup fun n => lg (ix4 b hd s n) := by
  have h : (constant (F := Ideal) S_ .f32 0xFF800000#32) (Shape.Idx.first h_S_) = ⊥ := neg_inf
  unfold peak
  rw [maximumf_at, max_at, floor_at, h, max_eq_right bot_le, Finset.sup_def, Finset.fold]
  rfl

theorem weight_at (lg : FVec Ideal S8x4x4096x256 .f32) (b : Fin 8) (hd : Fin 4) (s : Fin 4096) (n : Fin 256) :
    weight lg (ix4 b hd s n) = Ideal.exp (lg (ix4 b hd s n) - peak lg (ix3 b hd s)) := by
  pointwise [weight]

theorem total_at (e : FVec Ideal S8x4x4096x256 .f32) (b : Fin 8) (hd : Fin 4) (s : Fin 4096) :
    total e (ix3 b hd s) = ∑ n, e (ix4 b hd s n) := by
  pointwise [total]

theorem probs_at (e : FVec Ideal S8x4x4096x256 .f32) (b : Fin 8) (hd : Fin 4) (s : Fin 4096) (n : Fin 256) :
    probs e (ix4 b hd s n) = Ideal.div (e (ix4 b hd s n)) (total e (ix3 b hd s)) := by
  pointwise [probs]

theorem memo_at (mkv : FVec Ideal S8x256x512 .bf16) (p : FVec Ideal S8x4x4096x256 .f32) (b : Fin 8) (s : Fin 4096) (l : Fin 256) :
    memo mkv p (ix3 b s l) = ∑ n : Fin 256, mkv (ix3 b n ⟨256 + l, by omega⟩) * p (ix4 b ⟨l / 64, by omega⟩ s n) := by
  pointwise [memo]

theorem gate_at (z : FVec Ideal S8x4096x1024 .bf16) (b : Fin 8) (s : Fin 4096) (n : Fin 1024) :
    gate z (ix3 b s n) = z (ix3 b s n) * Ideal.div 1 (1 + Ideal.exp (-z (ix3 b s n))) := by
  pointwise [gate]

theorem resid_at (mix : FVec Ideal S8x4096x768 .bf16) (mo : FVec Ideal S8x4096x256 .f32) (g h : FVec Ideal S8x4096x1024 .f32)
    (w : FVec Ideal S1024x1024 .f32) (b : Fin 8) (s : Fin 4096) (n : Fin 1024) :
    resid mix mo g h w (ix3 b s n) = h (ix3 b s n)
      + (∑ x : Fin 768, mix (ix3 b s x) * g (ix3 b s ⟨x, by omega⟩) * w (ix2 ⟨x, by omega⟩ n)
        + ∑ x : Fin 256, mo (ix3 b s x) * g (ix3 b s ⟨768 + x, by omega⟩) * w (ix2 ⟨768 + x, by omega⟩ n)) := by
  pointwise [resid]

theorem normed_at (x : FVec Ideal S8x4096x1024 .f32) (fn : FVec Ideal S1024 .f32) (b : Fin 8) (s : Fin 4096) (n : Fin 1024) :
    normed x fn (ix3 b s n) = x (ix3 b s n)
      * Ideal.rsqrt (Ideal.div (∑ k, x (ix3 b s k) * x (ix3 b s k)) (Ideal.ofBits .f32 0x44800000#32) + Ideal.ofBits .f32 0x358637BD#32)
      * fn (ix1 n) := by
  pointwise [normed]

end Cert.Outproj
-- ==== Proof.Softmax.lean ====
module

public import Idealize.ShloMosaic.PureOps.Ideal
public import Mathlib.Data.EReal.Inv

/-! The softmax of a row of finite numbers, over the extended reals. -/

@[expose] public section

noncomputable section

namespace Cert.Softmax

open Idealize.ShloMosaic

/-- An extended real that is a real number. -/
def IsReal (x : EReal) : Prop := ∃ r : ℝ, x = (r : EReal)

/-- An extended real that is a positive real number. -/
def IsPos (x : EReal) : Prop := ∃ r : ℝ, 0 < r ∧ x = (r : EReal)

theorem IsReal.add {x y : EReal} : IsReal x → IsReal y → IsReal (x + y) := by
  rintro ⟨r, rfl⟩ ⟨s, rfl⟩; exact ⟨r + s, (EReal.coe_add r s).symm⟩

theorem IsReal.mul {x y : EReal} : IsReal x → IsReal y → IsReal (x * y) := by
  rintro ⟨r, rfl⟩ ⟨s, rfl⟩; exact ⟨r * s, (EReal.coe_mul r s).symm⟩

theorem IsReal.sub {x y : EReal} : IsReal x → IsReal y → IsReal (x - y) := by
  rintro ⟨r, rfl⟩ ⟨s, rfl⟩; exact ⟨r - s, (EReal.coe_sub r s).symm⟩

theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

theorem IsPos.isReal {x : EReal} : IsPos x → IsReal x := fun ⟨r, _, h⟩ => ⟨r, h⟩

theorem IsPos.add {x y : EReal} : IsPos x → IsPos y → IsPos (x + y) := by
  rintro ⟨r, hr, rfl⟩ ⟨s, hs, rfl⟩; exact ⟨r + s, add_pos hr hs, (EReal.coe_add r s).symm⟩

/-- A sum of positive reals over a nonempty range is a positive real. -/
theorem IsPos.sum {ι : Type*} (s : Finset ι) (hs : s.Nonempty) (f : ι → EReal) (h : ∀ i, IsPos (f i)) : IsPos (∑ i ∈ s, f i) := by
  classical
  induction hs using Finset.Nonempty.cons_induction with
  | singleton a => simpa using h a
  | cons a s ha _ ih => rw [Finset.sum_cons]; exact (h a).add ih

/-- A factor that is a nonnegative real comes out of a sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- The largest of finitely many reals is real. -/
theorem IsReal.sup {n : ℕ} [NeZero n] (f : Fin n → EReal) (h : ∀ i, IsReal (f i)) : IsReal (Finset.univ.sup f) := by
  obtain ⟨i, _, hi⟩ := Finset.exists_mem_eq_sup Finset.univ ⟨0, Finset.mem_univ _⟩ f
  rw [hi]; exact h i

/-- The exponential of a real is a positive real. -/
theorem IsPos.exp {x : EReal} : IsReal x → IsPos (Ideal.exp x) := by
  rintro ⟨r, rfl⟩; exact ⟨Real.exp r, Real.exp_pos r, rfl⟩

/-- A quotient by a positive real is the product with its reciprocal. -/
theorem div_pos_eq {x y : EReal} (h : IsPos y) : ∃ c : ℝ, 0 < c ∧ Ideal.div x y = x * (c : EReal) ∧ Ideal.div 1 y = (c : EReal) := by
  obtain ⟨r, hr, rfl⟩ := h
  exact ⟨1 / r, one_div_pos.mpr hr, Ideal.div_coe hr.ne' x, by rw [Ideal.div_coe hr.ne', one_mul]⟩

/-- Averaging by the normalised weights is averaging by the weights and normalising last. -/
theorem average {n : ℕ} [NeZero n] (w v : Fin n → EReal) (h : ∀ i, IsPos (w i)) :
    ∑ i, v i * Ideal.div (w i) (∑ j, w j) = (∑ i, w i * v i) * Ideal.div 1 (∑ j, w j) := by
  obtain ⟨r, hr, e⟩ := IsPos.sum Finset.univ ⟨0, Finset.mem_univ _⟩ w h
  rw [e, Ideal.div_coe hr.ne', one_mul, sum_mul_coe _ _ _ (one_div_pos.mpr hr).le]
  refine Finset.sum_congr rfl fun i _ => ?_
  rw [Ideal.div_coe hr.ne', mul_left_comm, mul_assoc]

end Cert.Softmax
-- ==== Proof.OutprojKernel.lean ====
module

public import proofs.«01_k».proof.Proof.Gen.Kernel2Ideal.Value
public import proofs.«01_k».proof.Proof.Softmax
public import Idealize.ShloMosaic.Lib.Claim
public import Idealize.ShloMosaic.Lib.Pointwise
public import Idealize.ShloMosaic.Lib.Pipeline.ValueKit

/-! What one grid step of the output projection computes, element by element. -/

@[expose] public section

set_option maxRecDepth 16384

noncomputable section

namespace Cert.Outproj

open Idealize.ShloMosaic Idealize.ShloMosaic.TcCoe Idealize.SL.Sem
open Cert.Kernel2Ideal Cert.Kernel2Ideal.Gen

/-- The indicator of the lanes of head `w`: lane `l` belongs to head `l / 64`. -/
def lanes (w : BitVec 32) : FVec Ideal S1x256 .f32 :=
  sitofp .f32 (extui 32 (cmpi .eq (shrsi (iota .tc S1x256 32 [1] iota_S1x256_d1_w32) (broadcast S1x256 6#32)) (broadcast S1x256 w)) natLt_1_32)

/-- The products of a tile's scaled queries, masked to one head, with all the keys. -/
def scores (q : FVec Ideal S512x256 .f32) (k : FVec Ideal S256x256 .bf16) (msk : FVec Ideal S1x256 .f32) : FVec Ideal S512x256 .f32 :=
  matmul dot_S512x256_S256x256_S512x256_1_1_0_0_n_n none
    (truncf .bf16 (mulf q (broadcastTo S512x256 (mulf msk (broadcast S1x256 (Scalar.ofBits (F := Ideal) .f32 0x3E000000#32))) broadcasts_S1x256_S512x256)) bitsLt_bf16_f32)
    k (constant S512x256 .f32 0x00000000#32)

/-- The reciprocal of the sum of each row. -/
def recip (e : FVec Ideal S512x256 .f32) : FVec Ideal S512x1 .f32 :=
  divf (broadcast S512x1 (Scalar.ofBits (F := Ideal) .f32 0x3F800000#32))
    (shapeCast S512x1 (multiReduction .add [1] S512 e 0x00000000#32 reduces_S512x256_S512 (.inl rfl) rfl) shapeCasts_S512_S512x1)

theorem pay5_eq : k0_pay5 (F := Ideal) = lanes 0#32 := rfl
theorem pay6_eq : k0_pay6 (F := Ideal) = lanes 1#32 := rfl
theorem pay7_eq : k0_pay7 (F := Ideal) = lanes 2#32 := rfl
theorem pay8_eq : k0_pay8 (F := Ideal) = lanes 3#32 := rfl
theorem pay9_eq (q : FVec Ideal S1x512x256 .bf16) (k : FVec Ideal S1x256x256 .bf16) :
    k0_pay9 q k = scores (k0_pay2 q) (k0_pay3 k) (lanes 0#32) := rfl
theorem pay11_eq (q : FVec Ideal S512x256 .f32) (k : FVec Ideal S256x256 .bf16) (msk : FVec Ideal S1x256 .f32) :
    k0_pay11 q k msk (Scalar.ofBits .f32 0x3E000000#32) = k0_pay10 (scores q k msk) := rfl
theorem pay12_eq (q : FVec Ideal S512x256 .f32) (k : FVec Ideal S256x256 .bf16) (msk : FVec Ideal S1x256 .f32) :
    k0_pay12 q k msk = k0_pay10 (scores q k msk) := rfl
theorem pay13_eq (q : FVec Ideal S512x256 .f32) (k : FVec Ideal S256x256 .bf16) (msk : FVec Ideal S1x256 .f32) :
    k0_pay13 q k msk = k0_pay10 (scores q k msk) := rfl
theorem pay14_eq (s : FVec Ideal S512x256 .f32) : k0_pay14 s = recip (k0_pay10 s) := rfl
theorem pay15_eq (q : FVec Ideal S512x256 .f32) (k : FVec Ideal S256x256 .bf16) (msk : FVec Ideal S1x256 .f32) :
    k0_pay15 q k msk (Scalar.ofBits .f32 0x3E000000#32) = recip (k0_pay10 (scores q k msk)) := rfl

/-- The word of the indicator, lane by lane and head by head. -/
theorem lane_word : ∀ (l : Fin 256) (h : Fin 4),
    BitVec.setWidth 32 (IntOp.cmpi .eq (IntOp.shrsi ArithUnit.vector (BitVec.ofNat 32 l) 6#32) (BitVec.ofNat 32 h))
      = if l.val / 64 = h.val then 1#32 else 0#32 := by decide +kernel

theorem lanes_at (h : Fin 4) (l : Fin 256) : lanes (BitVec.ofNat 32 h) (ix2 0 l) = if l.val / 64 = h.val then 1 else 0 := by
  have e : lanes (BitVec.ofNat 32 h) (ix2 0 l) = FloatOps.sitofp (F := Ideal) FTy.f32
      (BitVec.setWidth 32 (IntOp.cmpi .eq (IntOp.shrsi ArithUnit.vector (BitVec.ofNat 32 l) 6#32) (BitVec.ofNat 32 h))) := by
    pointwise [lanes]
  rw [e, lane_word]
  split
  · exact (congrArg (fun i : ℤ => ((i : ℝ) : EReal)) (by decide : (1#32).toInt = 1)).trans (by simp)
  · exact (congrArg (fun i : ℤ => ((i : ℝ) : EReal)) (by decide : (0#32).toInt = 0)).trans (by simp)

theorem scores_of (q : FVec Ideal S512x256 .f32) (k : FVec Ideal S256x256 .bf16) (msk : FVec Ideal S1x256 .f32) (r : Fin 512) (n : Fin 256) :
    scores q k msk (ix2 r n) = ∑ l : Fin 256, q (ix2 r l) * (msk (ix2 0 l) * Ideal.ofBits .f32 0x3E000000#32) * k (ix2 n l) := by
  pointwise [scores]

theorem eighth : Ideal.ofBits .f32 0x3E000000#32 = ((1 / 8 : ℝ) : EReal) := by
  simp [Ideal.ofBits, Ideal.ieee, -EReal.coe_mul]; norm_num

/-- A sum over the 256 lanes of something that is zero off one head is the sum over the 64 lanes of that head. -/
theorem sum_head (h : Fin 4) (f : Fin 256 → EReal) (hf : ∀ l : Fin 256, l.val / 64 ≠ h.val → f l = 0) :
    ∑ l, f l = ∑ d : Fin 64, f ⟨h * 64 + d, by omega⟩ := by
  rw [Fin.sum_univ_tiles 4 64 rfl f, Finset.sum_eq_single h]
  · intro j _ hj
    refine Finset.sum_eq_zero fun d _ => hf _ ?_
    intro hh
    simp only [Fin.val_mk] at hh
    exact hj (Fin.ext (by omega))
  · simp

/-- A masked score is the scaled product over the features of the head. -/
theorem scores_at (q : FVec Ideal S512x256 .f32) (k : FVec Ideal S256x256 .bf16) (h : Fin 4) (r : Fin 512) (n : Fin 256) :
    scores q k (lanes (BitVec.ofNat 32 h)) (ix2 r n)
      = (∑ d : Fin 64, q (ix2 r ⟨h * 64 + d, by omega⟩) * k (ix2 n ⟨h * 64 + d, by omega⟩)) * Ideal.ofBits .f32 0x3E000000#32 := by
  rw [scores_of, sum_head h]
  · rw [eighth, Softmax.sum_mul_coe _ _ _ (by norm_num : (0 : ℝ) ≤ 1 / 8)]
    refine Finset.sum_congr rfl fun d _ => ?_
    rw [lanes_at, if_pos (by simp only [Fin.val_mk]; omega), one_mul, mul_right_comm]
  · intro l hl
    rw [lanes_at, if_neg hl]
    simp

theorem recip_at (e : FVec Ideal S512x256 .f32) (r : Fin 512) : recip e (ix2 r 0) = Ideal.div 1 (∑ n, e (ix2 r n)) := by
  pointwise [recip]

theorem weight_of (lg : FVec Ideal S512x256 .f32) (r : Fin 512) (n : Fin 256) :
    k0_pay10 (F := Ideal) lg (ix2 r n)
      = Ideal.exp (lg (ix2 r n) - Finset.univ.fold max (Ideal.ofBits .f32 0xFF800000#32) fun n => lg (ix2 r n)) := by
  pointwise [k0_pay10]

theorem gate_of (z : FVec Ideal S1x512x1024 .bf16) (r : Fin 512) (n : Fin 1024) :
    k0_pay17 (F := Ideal) z (ix2 r n) = z (ix3 0 r n) * Ideal.div 1 (1 + Ideal.exp (0 - z (ix3 0 r n))) := by
  pointwise [k0_pay17]

theorem query_at (q : FVec Ideal S1x512x256 .bf16) (r : Fin 512) (n : Fin 256) :
    k0_pay2 (F := Ideal) q (ix2 r n) = q (ix3 0 r n) := by
  pointwise [k0_pay2]

theorem key_at (k : FVec Ideal S1x256x256 .bf16) (r n : Fin 256) : k0_pay3 (F := Ideal) k (ix2 r n) = k (ix3 0 r n) := by
  pointwise [k0_pay3]

theorem value_at (v : FVec Ideal S1x256x256 .bf16) (r n : Fin 256) : k0_pay4 (F := Ideal) v (ix2 r n) = v (ix3 0 r n) := by
  pointwise [k0_pay4]

theorem memo_of (v : FVec Ideal S256x256 .bf16) (m0 m1 m2 m3 : FVec Ideal S1x256 .f32) (e0 e1 e2 e3 : FVec Ideal S512x256 .f32)
    (i0 i1 : FVec Ideal S512x1 .f32) (r : Fin 512) (l : Fin 256) :
    k0_pay16 (F := Ideal) v m0 m1 m2 m3 e0 e1 e2 e3 i0 i1 (ix2 r l)
      = (∑ x, e0 (ix2 r x) * v (ix2 x l)) * (m0 (ix2 0 l) * i0 (ix2 r 0))
        + (∑ x, e1 (ix2 r x) * v (ix2 x l)) * (m1 (ix2 0 l) * i1 (ix2 r 0))
        + (∑ x, e2 (ix2 r x) * v (ix2 x l)) * (m2 (ix2 0 l) * Ideal.div 1 (∑ x, e2 (ix2 r x)))
        + (∑ x, e3 (ix2 r x) * v (ix2 x l)) * (m3 (ix2 0 l) * Ideal.div 1 (∑ x, e3 (ix2 r x))) := by
  pointwise [k0_pay16]

/-- The memory attention of a tile at lane `l`: the values averaged by the weights of lane `l`'s head. -/
theorem memo_tile (v : FVec Ideal S256x256 .bf16) (e : Fin 4 → FVec Ideal S512x256 .f32) (r : Fin 512) (l : Fin 256) :
    k0_pay16 (F := Ideal) v (lanes 0#32) (lanes 1#32) (lanes 2#32) (lanes 3#32) (e 0) (e 1) (e 2) (e 3) (recip (e 0)) (recip (e 1)) (ix2 r l)
      = (∑ x, e ⟨l / 64, by omega⟩ (ix2 r x) * v (ix2 x l)) * Ideal.div 1 (∑ x, e ⟨l / 64, by omega⟩ (ix2 r x)) := by
  rw [memo_of, recip_at, recip_at, show lanes 0#32 = lanes (BitVec.ofNat 32 (0 : Fin 4)) from rfl,
    show lanes 1#32 = lanes (BitVec.ofNat 32 (1 : Fin 4)) from rfl, show lanes 2#32 = lanes (BitVec.ofNat 32 (2 : Fin 4)) from rfl,
    show lanes 3#32 = lanes (BitVec.ofNat 32 (3 : Fin 4)) from rfl, lanes_at, lanes_at, lanes_at, lanes_at]
  generalize hd : (⟨l.val / 64, by omega⟩ : Fin 4) = d
  have hv : l.val / 64 = d.val := congrArg Fin.val hd
  rw [hv]
  fin_cases d <;> simp

/-- The residual row of a tile before its normalisation. -/
def row (mo : FVec Ideal S512x256 .f32) (g : FVec Ideal S512x1024 .f32) (mix : FVec Ideal S1x512x768 .bf16)
    (h : FVec Ideal S1x512x1024 .f32) (wa : FVec Ideal S768x1024 .bf16) (wb : FVec Ideal S256x1024 .bf16) (r : Fin 512) (n : Fin 1024) : EReal :=
  h (ix3 0 r n) + ∑ x : Fin 768, mix (ix3 0 r x) * g (ix2 r ⟨x, by omega⟩) * wa (ix2 x n)
    + ∑ x : Fin 256, mo (ix2 r x) * g (ix2 r ⟨768 + x, by omega⟩) * wb (ix2 x n)

theorem out_of (mo : FVec Ideal S512x256 .f32) (g : FVec Ideal S512x1024 .f32) (mix : FVec Ideal S1x512x768 .bf16)
    (h : FVec Ideal S1x512x1024 .f32) (wa : FVec Ideal S768x1024 .bf16) (wb : FVec Ideal S256x1024 .bf16)
    (fn : FVec Ideal S1x1024 .f32) (r : Fin 512) (n : Fin 1024) :
    k0_pay1 (F := Ideal) mo g mix h wa wb fn (ix3 0 r n) = row mo g mix h wa wb r n
      * Ideal.rsqrt (Ideal.div (∑ k, row mo g mix h wa wb r k * row mo g mix h wa wb r k) (Ideal.ofBits .f32 0x44800000#32)
        + Ideal.ofBits .f32 0x358637BD#32) * fn (ix2 0 n) := by
  pointwise [k0_pay1, row]

end Cert.Outproj
-- ==== Proof.OutprojValue.lean ====
module

public import proofs.«01_k».proof.Proof.OutprojRef
public import proofs.«01_k».proof.Proof.OutprojKernel

/-! The output projection's kernel computes its reference. -/

@[expose] public section

set_option maxRecDepth 16384

noncomputable section

namespace Cert.Outproj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The block of each window at a grid step: batch entry `t / 8`, rows `512 (t % 8)` on. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, 0, 0] ∧ win0_4.index t = ![t.val / 8, t.val % 8, 0]
    ∧ win0_5.index t = ![0, 0] ∧ win0_6.index t = ![0, 0] ∧ win0_8.index t = ![0, 0]
    ∧ win0_9.index t = ![t.val / 8, t.val % 8, 0] := (by decide +kernel : ∀ t : Fin grid0.N, _)

/-- Every query and every key is a real number: what the precondition says of the arrays. -/
structure Finite (mq : FVec Ideal Cert.Reference2Ideal.S8x4096x256 .bf16) (mkv : FVec Ideal Cert.Reference2Ideal.S8x256x512 .bf16) : Prop where
  query : ∀ (b : Fin 8) (s : Fin 4096) (l : Fin 256), Softmax.IsReal (mq (ix3 b s l))
  key : ∀ (b : Fin 8) (n : Fin 256) (l : Fin 256), Softmax.IsReal (mkv (ix3 b n ⟨l, by omega⟩))

/-- The reference's logits are real. -/
theorem logits_real {mq : FVec Ideal Cert.Reference2Ideal.S8x4096x256 .bf16} {mkv : FVec Ideal Cert.Reference2Ideal.S8x256x512 .bf16}
    (hf : Finite mq mkv) (b : Fin 8) (hd : Fin 4) (s : Fin 4096) (n : Fin 256) : Softmax.IsReal (logits mq mkv (ix4 b hd s n)) := by
  rw [logits_at]
  refine Softmax.IsReal.mul (Softmax.IsReal.sum _ _ fun d => ?_) ⟨_, eighth⟩
  exact (hf.query b s _).mul (hf.key b n ⟨hd * 64 + d, by omega⟩)

/-- The reference's weights are positive reals. -/
theorem weight_pos {mq : FVec Ideal Cert.Reference2Ideal.S8x4096x256 .bf16} {mkv : FVec Ideal Cert.Reference2Ideal.S8x256x512 .bf16}
    (hf : Finite mq mkv) (b : Fin 8) (hd : Fin 4) (s : Fin 4096) (n : Fin 256) : Softmax.IsPos (weight (logits mq mkv) (ix4 b hd s n)) := by
  rw [weight_at, peak_at]
  exact Softmax.IsPos.exp ((logits_real hf b hd s n).sub (Softmax.IsReal.sup _ fun n => logits_real hf b hd s n))

/-- A tile's weights of one head are the reference's. -/
theorem weight_tile (mq : FVec Ideal Cert.Reference2Ideal.S8x4096x256 .bf16) (mkv : FVec Ideal Cert.Reference2Ideal.S8x256x512 .bf16)
    (q : FVec Ideal S1x512x256 .bf16) (k : FVec Ideal S1x256x256 .bf16) (b : Fin 8) (s : Fin 4096) (r : Fin 512)
    (hq : ∀ l : Fin 256, q (ix3 0 r l) = mq (ix3 b s l)) (hk : ∀ n l : Fin 256, k (ix3 0 n l) = mkv (ix3 b n ⟨l, by omega⟩))
    (h : Fin 4) (n : Fin 256) :
    k0_pay10 (F := Ideal) (scores (k0_pay2 (F := Ideal) q) (k0_pay3 (F := Ideal) k) (lanes (BitVec.ofNat 32 h))) (ix2 r n)
      = weight (logits mq mkv) (ix4 b h s n) := by
  have e : ∀ n, scores (k0_pay2 (F := Ideal) q) (k0_pay3 (F := Ideal) k) (lanes (BitVec.ofNat 32 h)) (ix2 r n) = logits mq mkv (ix4 b h s n) := by
    intro n
    rw [scores_at, logits_at]
    refine congrArg (· * _) (Finset.sum_congr rfl fun d _ => ?_)
    rw [query_at, key_at, hq, hk]
  rw [weight_of, weight_at, peak_at, neg_inf, Finset.sup_def, Finset.fold]
  simp only [e]
  rfl

/-- A tile's memory attention is the reference's. -/
theorem memo_eq {mq : FVec Ideal Cert.Reference2Ideal.S8x4096x256 .bf16} {mkv : FVec Ideal Cert.Reference2Ideal.S8x256x512 .bf16}
    (hf : Finite mq mkv) (q : FVec Ideal S1x512x256 .bf16) (k v : FVec Ideal S1x256x256 .bf16) (b : Fin 8) (s : Fin 4096) (r : Fin 512)
    (hq : ∀ l : Fin 256, q (ix3 0 r l) = mq (ix3 b s l)) (hk : ∀ n l : Fin 256, k (ix3 0 n l) = mkv (ix3 b n ⟨l, by omega⟩))
    (hv : ∀ n l : Fin 256, v (ix3 0 n l) = mkv (ix3 b n ⟨256 + l, by omega⟩)) (l : Fin 256) :
    k0_pay16 (F := Ideal) (k0_pay4 (F := Ideal) v) (k0_pay5 (F := Ideal)) (k0_pay6 (F := Ideal)) (k0_pay7 (F := Ideal)) (k0_pay8 (F := Ideal))
        (k0_pay10 (k0_pay9 (F := Ideal) q k))
        (k0_pay11 (k0_pay2 (F := Ideal) q) (k0_pay3 (F := Ideal) k) (k0_pay6 (F := Ideal)) (Scalar.ofBits .f32 0x3E000000#32))
        (k0_pay12 (k0_pay2 (F := Ideal) q) (k0_pay3 (F := Ideal) k) (k0_pay7 (F := Ideal)))
        (k0_pay13 (k0_pay2 (F := Ideal) q) (k0_pay3 (F := Ideal) k) (k0_pay8 (F := Ideal)))
        (k0_pay14 (k0_pay9 (F := Ideal) q k))
        (k0_pay15 (k0_pay2 (F := Ideal) q) (k0_pay3 (F := Ideal) k) (k0_pay6 (F := Ideal)) (Scalar.ofBits .f32 0x3E000000#32)) (ix2 r l)
      = memo mkv (probs (weight (logits mq mkv))) (ix3 b s l) := by
  rw [pay9_eq, pay14_eq, pay11_eq, pay12_eq, pay13_eq, pay15_eq, pay5_eq, pay6_eq, pay7_eq, pay8_eq]
  refine (memo_tile (k0_pay4 (F := Ideal) v)
    (fun h => k0_pay10 (F := Ideal) (scores (k0_pay2 (F := Ideal) q) (k0_pay3 (F := Ideal) k) (lanes (BitVec.ofNat 32 h)))) r l).trans ?_
  have hw := weight_tile mq mkv q k b s r hq hk ⟨l / 64, by omega⟩
  simp only at hw
  simp only [hw, value_at, hv]
  rw [memo_at]
  simp only [probs_at, total_at]
  exact (Softmax.average (fun n => weight (logits mq mkv) (ix4 b ⟨l / 64, by omega⟩ s n)) (fun n => mkv (ix3 b n ⟨256 + l, by omega⟩))
    fun n => weight_pos hf b _ s n).symm

/-- A tile's gate is the reference's. -/
theorem gate_eq (z : FVec Ideal Cert.Reference2Ideal.S8x4096x1024 .bf16) (x : FVec Ideal S1x512x1024 .bf16) (b : Fin 8) (s : Fin 4096)
    (r : Fin 512) (n : Fin 1024) (hz : x (ix3 0 r n) = z (ix3 b s n)) : k0_pay17 (F := Ideal) x (ix2 r n) = gate z (ix3 b s n) := by
  rw [gate_of, gate_at, hz, zero_sub]

/-- A tile's residual row is the reference's. -/
theorem row_eq (mix : FVec Ideal Cert.Reference2Ideal.S8x4096x768 .bf16) (mo : FVec Ideal Cert.Reference2Ideal.S8x4096x256 .f32)
    (g h : FVec Ideal Cert.Reference2Ideal.S8x4096x1024 .f32) (w : FVec Ideal Cert.Reference2Ideal.S1024x1024 .f32)
    (mo' : FVec Ideal S512x256 .f32) (g' : FVec Ideal S512x1024 .f32) (mix' : FVec Ideal S1x512x768 .bf16)
    (h' : FVec Ideal S1x512x1024 .f32) (wa : FVec Ideal S768x1024 .bf16) (wb : FVec Ideal S256x1024 .bf16)
    (b : Fin 8) (s : Fin 4096) (r : Fin 512)
    (hmo : ∀ l, mo' (ix2 r l) = mo (ix3 b s l)) (hg : ∀ n, g' (ix2 r n) = g (ix3 b s n)) (hmix : ∀ n, mix' (ix3 0 r n) = mix (ix3 b s n))
    (hh : ∀ n, h' (ix3 0 r n) = h (ix3 b s n)) (ha : ∀ (x : Fin 768) n, wa (ix2 x n) = w (ix2 ⟨x, by omega⟩ n))
    (hb : ∀ (x : Fin 256) n, wb (ix2 x n) = w (ix2 ⟨768 + x, by omega⟩ n)) (n : Fin 1024) :
    row mo' g' mix' h' wa wb r n = resid mix mo g h w (ix3 b s n) := by
  rw [resid_at, ← add_assoc, row]
  simp only [hmo, hg, hmix, hh, ha, hb]

section Blocks

variable (c : Dev nD) (t : Fin cfg0.N) (r : Fin 512)

/-- The batch entry of a grid step. -/
def bat (t : Fin cfg0.N) : Fin 8 := ⟨t.val / 8, by have : t.val < 64 := t.isLt; omega⟩

/-- The token of a row of a grid step. -/
def tok (t : Fin cfg0.N) (r : Fin 512) : Fin 4096 := ⟨t.val % 8 * 512 + r, by omega⟩

theorem blk0 (n : Fin 768) : iblk m c 0 t (ix3 0 r n) = m ((c : Thread nD τ).loc main_arg0) (ix3 (bat t) (tok t r) n) := by
  blk_point [iblk, V, idx t, bat, tok]

theorem blk1 (n : Fin 1024) : iblk m c 1 t (ix3 0 r n) = m ((c : Thread nD τ).loc main_arg1) (ix3 (bat t) (tok t r) n) := by
  blk_point [iblk, V, idx t, bat, tok]

theorem blk2 (n : Fin 256) : View.ld (iblk m c 2 t) r0_0 (ix3 0 r n) = m ((c : Thread nD τ).loc main_arg2) (ix3 (bat t) (tok t r) n) := by
  blk_point [iblk, V, idx t, bat, tok]

theorem blk3 (n l : Fin 256) : View.ld (iblk m c 3 t) r0_1 (ix3 0 n l) = m ((c : Thread nD τ).loc main_arg3) (ix3 (bat t) n ⟨l, by omega⟩) := by
  blk_point [iblk, V, idx t, bat, tok]

theorem blk3' (n l : Fin 256) :
    View.ld (iblk m c 3 t) r0_2 (ix3 0 n l) = m ((c : Thread nD τ).loc main_arg3) (ix3 (bat t) n ⟨256 + l, by omega⟩) := by
  blk_point [iblk, V, idx t, bat, tok]

theorem blk4 (n : Fin 1024) : iblk m c 4 t (ix3 0 r n) = m ((c : Thread nD τ).loc main_arg4) (ix3 (bat t) (tok t r) n) := by
  blk_point [iblk, V, idx t, bat, tok]

theorem blk5 (x : Fin 768) (n : Fin 1024) :
    iblk m c 5 t (ix2 x n) = m ((c : Thread nD τ).loc main_arg5) (ix2 ⟨x, by omega⟩ n) := by
  blk_simp [iblk, idx t]; entry_read; pointwise; blk_ext [idx t]

theorem blk6 (x : Fin 256) (n : Fin 1024) :
    iblk m c 6 t (ix2 x n) = m ((c : Thread nD τ).loc main_arg5) (ix2 ⟨768 + x, by omega⟩ n) := by
  blk_simp [iblk, idx t]; entry_read; pointwise; blk_ext [idx t]

theorem blk8 (n : Fin 1024) : iblk m c 8 t (ix2 0 n) = m ((c : Thread nD τ).loc main_arg6) (ix1 n) := by
  blk_simp [iblk, idx t]; entry_read; pointwise; blk_ext [idx t]

end Blocks

/-- What the kernel leaves in its result array: the reference of the arguments. -/
theorem final (c : Dev nD) (hf : Finite (m ((c : Thread nD τ).loc main_arg2)) (m ((c : Thread nD τ).loc main_arg3))) :
    (dats m 0 c).arrAt 9 cfg0.N = whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 9 _ (by decide +kernel) fun t _ y => ?_
  blk_simp
  rw [after0_9]
  frame_out
  idx_vars y
  obtain rfl : y0 = 0 := Subsingleton.elim _ _
  have hy : ((View.whole main_v5).slice (win0_9.rect t)).emb (ix3 0 y1 y2) = ix3 (bat t) (tok t y1) y2 := by
    blk_ext [idx t, bat, tok]
  rw [hy]
  refine (out_of _ _ _ _ _ _ _ y1 y2).trans ?_
  have hrow := row_eq (m ((c : Thread nD τ).loc main_arg0))
    (memo (m ((c : Thread nD τ).loc main_arg3)) (probs (weight (logits (m ((c : Thread nD τ).loc main_arg2)) (m ((c : Thread nD τ).loc main_arg3))))))
    (gate (m ((c : Thread nD τ).loc main_arg1))) (m ((c : Thread nD τ).loc main_arg4)) (m ((c : Thread nD τ).loc main_arg5)) _ _ _ _ _ _
    (bat t) (tok t y1) y1 (memo_eq hf _ _ _ (bat t) (tok t y1) y1 (blk2 m c t y1) (blk3 m c t) (blk3' m c t))
    (fun n => gate_eq _ _ (bat t) (tok t y1) y1 n (blk1 m c t y1 n)) (blk0 m c t y1) (blk4 m c t y1) (blk5 m c t) (blk6 m c t)
  unfold whole
  rw [normed_at]
  refine congrArg₂ (· * ·) (congrArg₂ (· * ·) (hrow y2) ?_) (blk8 m c t y2)
  refine congrArg (fun s => Ideal.rsqrt (Ideal.div s _ + _)) (Finset.sum_congr rfl fun k _ => ?_)
  exact congrArg₂ (· * ·) (hrow k) (hrow k)

end Cert.Outproj
-- ==== Proof.OutprojClaim.lean ====
module

public import proofs.«01_k».proof.Defs
public import proofs.«01_k».proof.Proof.OutprojValue
public import proofs.«01_k».proof.Proof.Gen.Kernel2
public import proofs.«01_k».proof.Proof.Gen.Kernel2.Frame
public import proofs.«01_k».proof.Proof.Gen.Pre_finite_queries_and_keys
public import Idealize.ShloMosaic.Lib.Claim
public import Idealize.ShloMosaic.Lib.ReduceAll
public import Idealize.ShloMosaic.Lib.Affine

/-! The claims about the output projection. -/

@[expose] public section

set_option maxRecDepth 16384

noncomputable section

namespace Cert.Outproj

open Idealize.ShloMosaic Idealize.SL.Sem

/-- An extended real whose absolute value is below infinity is a real number. -/
theorem real_of_below {x : EReal} (h : Ideal.cmp .olt (max x (-x)) ⊤ = 1#1) : Softmax.IsReal x := by
  have h' : max x (-x) < ⊤ := by
    by_contra hn
    simp [Ideal.cmp, hn] at h
  induction x using EReal.rec with
  | bot => simp at h'
  | top => simp at h'
  | coe r => exact ⟨r, rfl⟩

/-- The word of plus infinity. -/
theorem pos_inf : Scalar.ofBits (F := Ideal) .f32 0x7F800000#32 = (⊤ : EReal) := by
  show Ideal.ofBits .f32 0x7F800000#32 = ⊤
  simp [Ideal.ofBits, Ideal.ieee]

/-- What the precondition says of the arrays. -/
theorem finite_of_pre (m : (ℓ : Loc Kernel2Ideal.nD Kernel2Ideal.τ Kernel2Ideal.sig) → Buf (Elt Ideal) ℓ)
    (h : Cert.Pre_Kernel2Ideal_finite_queries_and_keys m) (c : Dev Kernel2Ideal.nD) :
    Finite (m ((c.tc : Thread Kernel2Ideal.nD Kernel2Ideal.τ).loc Kernel2Ideal.main_arg2))
      (m ((c.tc : Thread Kernel2Ideal.nD Kernel2Ideal.τ).loc Kernel2Ideal.main_arg3)) := by
  have e := congrFun (h c) ix0
  dsimp only [Cert.Pre_finite_queries_and_keys.fn] at e
  obtain ⟨hq, hk⟩ := IntOp.andi_eq_one.1 e
  haveI : Subsingleton Cert.Pre_finite_queries_and_keys.S_.Idx := inferInstanceAs (Subsingleton ((d : Fin 0) → _))
  constructor
  · intro b s l
    have := Host.reduce_andi_all _ _ _ _ _ hq (ix3 b s l)
    refine real_of_below ?_
    rw [← pos_inf]
    exact this
  · intro b n l
    have := Host.reduce_andi_all _ _ _ _ _ hk (ix3 b n l)
    refine real_of_below ?_
    rw [← pos_inf]
    have e : extractStridedSlice Cert.Pre_finite_queries_and_keys.S8x256x256 ![0, 0, 0]
        (m ((c.tc : Thread Kernel2Ideal.nD Kernel2Ideal.τ).loc Kernel2Ideal.main_arg3))
        Cert.Pre_finite_queries_and_keys.Facts.slices_S8x256x512_S8x256x256_0_0_0 (ix3 b n l)
      = (m ((c.tc : Thread Kernel2Ideal.nD Kernel2Ideal.τ).loc Kernel2Ideal.main_arg3)) (ix3 b n ⟨l, by omega⟩) := by
      pointwise
    rw [← e]
    exact this

theorem frame_kernel : Cert.quiescent_Kernel2 := fun m g _ => Cert.Kernel2.Gen.frame m g
theorem frame_ideal : Cert.quiescent_Kernel2Ideal := fun m g _ => Cert.Kernel2Ideal.Gen.frame m g
theorem frame_ideal_pre : Cert.quiescent_Kernel2Ideal_pre_finite_queries_and_keys := fun m g _ => Cert.Kernel2Ideal.Gen.frame m g
theorem frame_reference : Cert.quiescent_Reference2Ideal := fun m g _ =>
  (θ_run Cert.Reference2Ideal.defs _ _).mono (fun r h => ⟨fun c => (h c).2,
      Idealize.ShloMosaic.sem_eq_zero_of_no_sems (by decide) r.2⟩)
    (Cert.Reference2Ideal.Value.run m g)
theorem frame_reference_pre : Cert.quiescent_Reference2Ideal_pre_finite_queries_and_keys := fun m g _ => frame_reference m g trivial
theorem preserved : Cert.preserves_Kernel2_Kernel2Ideal := trivial

theorem algebraic : Cert.algebraic_Kernel2Ideal_Reference2Ideal_pre_finite_queries_and_keys := by
  pair_intro
  · run_from Cert.Kernel2Ideal.Value.run_blocks m g
  · run_from Cert.Reference2Ideal.Value.run m' g'
    show Cert.Reference2Ideal.Value.res_out0 m' c = _
    rw [whole_eq, (hagree c).1, (hagree c).2.1, (hagree c).2.2.1, (hagree c).2.2.2.1, (hagree c).2.2.2.2.1,
      (hagree c).2.2.2.2.2.1, (hagree c).2.2.2.2.2.2]
    exact (final m c (finite_of_pre m hpre c)).symm

end Cert.Outproj
-- ==== Proof.Rms.lean ====
module

public import Idealize.ShloMosaic.Lib.Claim
public import Idealize.ShloMosaic.Lib.Pointwise

/-! Root-mean-square normalisation of a row of 1024 numbers and its product with a column, as formulas over
    the extended reals. The input projections and the memory projection all compute them. -/

@[expose] public section

noncomputable section

namespace Cert.Rms

open Idealize.ShloMosaic

/-- The reciprocal root of a row's mean square plus the small constant. -/
def scale (f : Fin 1024 → EReal) : EReal :=
  Ideal.rsqrt (Ideal.div (∑ k : Fin 1024, f k * f k) (Ideal.ofBits .f32 0x44800000#32) + Ideal.ofBits .f32 0x358637BD#32)

/-- The product of a normalised row, scaled by the gains `g`, with the column `w`. -/
def proj (f g w : Fin 1024 → EReal) : EReal := ∑ k : Fin 1024, f k * scale f * g k * w k

end Cert.Rms
-- ==== Proof.InprojZero.lean ====
module

public import proofs.«01_k».proof.Proof.Rms
public import proofs.«01_k».proof.Defs
public import proofs.«01_k».proof.Proof.Gen.Kernel3
public import proofs.«01_k».proof.Proof.Gen.Kernel3.Frame
public import proofs.«01_k».proof.Proof.Gen.Kernel3Ideal.Value
public import proofs.«01_k».proof.Proof.Gen.Reference3Ideal.Run
public import Idealize.ShloMosaic.Lib.Claim
public import Idealize.ShloMosaic.Lib.Pointwise
public import Idealize.ShloMosaic.Lib.Pipeline.ValueKit

/-! The input projection of layer 0: its kernel's four results are the reference's. -/

@[expose] public section

set_option maxRecDepth 16384

noncomputable section

namespace Cert.InprojZero

open Idealize.ShloMosaic Idealize.ShloMosaic.TcCoe Idealize.SL.Sem
open Idealize.ShloMosaic.Pipeline (Dat)

section Reference
open Cert.Reference3Ideal Cert.Reference3Ideal.Gen

/-- The normalised rows of the residual stream. -/
def normed (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The product of the normalised rows with the whole weight. -/
def whole (x : FVec Ideal S8x4096x1024 .f32) (g : FVec Ideal S1024 .f32) (w : FVec Ideal S1024x3608 .f32) : FVec Ideal S8x4096x3608 .f32 :=
  Host.dotGeneral dot_S8x4096x1024_S1024x3608_S8x4096x3608_2_0_01_1_n_n none (normed x g) w

/-- The columns of queries, keys and values. -/
def qkv (p : FVec Ideal S8x4096x3608 .f32) : FVec Ideal S8x4096x2304 .bf16 :=
  truncf .bf16 (extractStridedSlice S8x4096x2304 ![0, 0, 0] p slices_S8x4096x3608_S8x4096x2304_0_0_0) bitsLt_bf16_f32

/-- The columns of the gate. -/
def zed (p : FVec Ideal S8x4096x3608 .f32) : FVec Ideal S8x4096x1024 .bf16 :=
  truncf .bf16 (extractStridedSlice S8x4096x1024 ![0, 0, 2304] p slices_S8x4096x3608_S8x4096x1024_0_0_2304) bitsLt_bf16_f32

/-- The columns of the memory queries. -/
def memq (p : FVec Ideal S8x4096x3608 .f32) : FVec Ideal S8x4096x256 .bf16 :=
  truncf .bf16 (extractStridedSlice S8x4096x256 ![0, 0, 3328] p slices_S8x4096x3608_S8x4096x256_0_0_3328) bitsLt_bf16_f32

/-- The columns of the rates and decays, with zero columns up to 128. -/
def rates (p : FVec Ideal S8x4096x3608 .f32) : FVec Ideal S8x4096x128 .f32 :=
  pad S8x4096x128 ![0, 0, 0] ![0, 0, 104] ![0, 0, 0] (extractStridedSlice S8x4096x24 ![0, 0, 3584] p slices_S8x4096x3608_S8x4096x24_0_0_3584)
    (sitofp .f32 (constantI S_ 32 0#32)) pads_S8x4096x24_S8x4096x128_000_000_01040 h_S_

theorem normed_at (x : FVec Ideal S8x4096x1024 .f32) (g : FVec Ideal S1024 .f32) (b : Fin 8) (s : Fin 4096) (k : Fin 1024) :
    normed x g (ix3 b s k) = x (ix3 b s k) * Rms.scale (fun k => x (ix3 b s k)) * g (ix1 k) := by
  pointwise [normed, Rms.scale]

theorem whole_at (x : FVec Ideal S8x4096x1024 .f32) (g : FVec Ideal S1024 .f32) (w : FVec Ideal S1024x3608 .f32) (b : Fin 8) (s : Fin 4096) (n : Fin 3608) :
    whole x g w (ix3 b s n) = Rms.proj (fun k => x (ix3 b s k)) (fun k => g (ix1 k)) (fun k => w (ix2 k n)) := by
  have e : whole x g w (ix3 b s n) = ∑ k : Fin 1024, normed x g (ix3 b s k) * w (ix2 k n) := by
    pointwise [whole]
  simp only [e, normed_at, Rms.proj]

theorem qkv_at (p : FVec Ideal S8x4096x3608 .f32) (b : Fin 8) (s : Fin 4096) (n : Fin 2304) : qkv p (ix3 b s n) = p (ix3 b s ⟨n, by omega⟩) := by
  pointwise [qkv]

theorem zed_at (p : FVec Ideal S8x4096x3608 .f32) (b : Fin 8) (s : Fin 4096) (n : Fin 1024) : zed p (ix3 b s n) = p (ix3 b s ⟨2304 + n, by omega⟩) := by
  pointwise [zed]

theorem memq_at (p : FVec Ideal S8x4096x3608 .f32) (b : Fin 8) (s : Fin 4096) (n : Fin 256) : memq p (ix3 b s n) = p (ix3 b s ⟨3328 + n, by omega⟩) := by
  pointwise [memq]

theorem rates_at (p : FVec Ideal S8x4096x3608 .f32) (b : Fin 8) (s : Fin 4096) (n : Fin 128) :
    rates p (ix3 b s n) = if h : n.val < 24 then p (ix3 b s ⟨3584 + n, by omega⟩) else 0 := by
  pointwise [rates]
  rw [show FloatOps.sitofp (F := Ideal) FTy.f32 0#32 = (0 : EReal) by simp [FloatOps.sitofp]]

end Reference

section Kernel
open Cert.Kernel3Ideal Cert.Kernel3Ideal.Gen

theorem rows_of (x : FVec Ideal S1x512x1024 .f32) (g : FVec Ideal S1x1024 .f32) (r : Fin 512) (k : Fin 1024) :
    k0_pay3 (F := Ideal) x g (ix2 r k) = x (ix3 0 r k) * Rms.scale (fun k => x (ix3 0 r k)) * g (ix2 0 k) := by
  pointwise [k0_pay3, Rms.scale]

theorem qkv_of (x : FVec Ideal S1x512x1024 .f32) (g : FVec Ideal S1x1024 .f32) (w : FVec Ideal S1024x2304 .bf16) (r : Fin 512) (n : Fin 2304) :
    k0_pay4 (F := Ideal) x g w (ix3 0 r n) = Rms.proj (fun k => x (ix3 0 r k)) (fun k => g (ix2 0 k)) (fun k => w (ix2 k n)) := by
  have e : k0_pay4 (F := Ideal) x g w (ix3 0 r n) = ∑ k : Fin 1024, k0_pay3 (F := Ideal) x g (ix2 r k) * w (ix2 k n) := by
    pointwise [k0_pay4]
  simp only [e, rows_of, Rms.proj]

theorem zed_of (x : FVec Ideal S1x512x1024 .f32) (g : FVec Ideal S1x1024 .f32) (w : FVec Ideal S1024x1024 .bf16) (r : Fin 512) (n : Fin 1024) :
    k0_pay5 (F := Ideal) x g w (ix3 0 r n) = Rms.proj (fun k => x (ix3 0 r k)) (fun k => g (ix2 0 k)) (fun k => w (ix2 k n)) := by
  have e : k0_pay5 (F := Ideal) x g w (ix3 0 r n) = ∑ k : Fin 1024, k0_pay3 (F := Ideal) x g (ix2 r k) * w (ix2 k n) := by
    pointwise [k0_pay5]
  simp only [e, rows_of, Rms.proj]

theorem memq_of (x : FVec Ideal S1x512x1024 .f32) (g : FVec Ideal S1x1024 .f32) (w : FVec Ideal S1024x256 .bf16) (r : Fin 512) (n : Fin 256) :
    k0_pay1 (F := Ideal) (k0_pay3 (F := Ideal) x g) (k0_pay6 (F := Ideal) w) (constant S512x256 .f32 0x00000000#32) (ix3 0 r n)
      = Rms.proj (fun k => x (ix3 0 r k)) (fun k => g (ix2 0 k)) (fun k => w (ix2 k n)) := by
  have e : k0_pay1 (F := Ideal) (k0_pay3 (F := Ideal) x g) (k0_pay6 (F := Ideal) w) (constant S512x256 .f32 0x00000000#32) (ix3 0 r n)
      = ∑ k : Fin 1024, k0_pay3 (F := Ideal) x g (ix2 r k) * w (ix2 k n) := by
    pointwise [k0_pay1, k0_pay6]
  simp only [e, rows_of, Rms.proj]

theorem rates_of (x : FVec Ideal S1x512x1024 .f32) (g : FVec Ideal S1x1024 .f32) (w : FVec Ideal S1024x128 .bf16) (r : Fin 512) (n : Fin 128) :
    k0_pay2 (F := Ideal) (k0_pay3 (F := Ideal) x g) w (ix3 0 r n)
      = Rms.proj (fun k => x (ix3 0 r k)) (fun k => g (ix2 0 k)) (fun k => w (ix2 k n)) := by
  have e : k0_pay2 (F := Ideal) (k0_pay3 (F := Ideal) x g) w (ix3 0 r n)
      = ∑ k : Fin 1024, k0_pay3 (F := Ideal) x g (ix2 r k) * w (ix2 k n) := by
    pointwise [k0_pay2]
  simp only [e, rows_of, Rms.proj]

variable (m : (ℓ : Loc nD τ sig) → Buf (Elt Ideal) ℓ)

/-- The block of each window at a grid step: batch entry `t / 8`, rows `512 (t % 8)` on. -/
theorem idx : ∀ t : Fin cfg0.N, win0_0.index t = ![t.val / 8, t.val % 8, 0] ∧ win0_1.index t = ![0, 0]
    ∧ win0_2.index t = ![0, 0] ∧ win0_3.index t = ![0, 0] ∧ win0_4.index t = ![0, 0] ∧ win0_5.index t = ![0, 0]
    ∧ win0_6.index t = ![t.val / 8, t.val % 8, 0] ∧ win0_7.index t = ![t.val / 8, t.val % 8, 0]
    ∧ win0_8.index t = ![t.val / 8, t.val % 8, 0] ∧ win0_9.index t = ![t.val / 8, t.val % 8, 0] :=
  (by decide +kernel : ∀ t : Fin grid0.N, _)

section Blocks
variable (c : Dev nD) (t : Fin cfg0.N) (r : Fin 512)

/-- The batch entry of a grid step. -/
def bat (t : Fin cfg0.N) : Fin 8 := ⟨t.val / 8, by have : t.val < 64 := t.isLt; omega⟩

/-- The token of a row of a grid step. -/
def tok (t : Fin cfg0.N) (r : Fin 512) : Fin 4096 := ⟨t.val % 8 * 512 + r, by omega⟩

theorem blk0 (n : Fin 1024) : iblk m c 0 t (ix3 0 r n) = m ((c : Thread nD τ).loc main_arg0) (ix3 (bat t) (tok t r) n) := by
  blk_point [iblk, V, idx t, bat, tok]

theorem ld0 (n : Fin 1024) :
    View.ld (iblk m c 0 t) r0_0 (ix3 0 r n) = m ((c : Thread nD τ).loc main_arg0) (ix3 (bat t) (tok t r) n) := by
  blk_point [iblk, V, idx t, bat, tok]

theorem blk1 (n : Fin 1024) : iblk m c 1 t (ix2 0 n) = m ((c : Thread nD τ).loc main_arg1) (ix1 n) := by
  blk_simp [iblk, idx t]
  simp only [V, hostOps0, hostOps0_1, hostOps0_2, List.flatten_cons, List.flatten_nil, List.append_nil, List.cons_append, List.nil_append]
  entry_read; pointwise; blk_ext [idx t]

theorem ld1 (n : Fin 1024) : View.ld (iblk m c 1 t) r0_1 (ix2 0 n) = m ((c : Thread nD τ).loc main_arg1) (ix1 n) := by
  exact (congrFun (View.ld_unit_zero (by funext i; fin_cases i <;> rfl) _ _) _).trans (blk1 m c t n)

theorem blk2 (k : Fin 1024) (n : Fin 2304) :
    iblk m c 2 t (ix2 k n) = m ((c : Thread nD τ).loc main_arg2) (ix2 k ⟨n, by omega⟩) := by
  blk_simp [iblk, idx t]
  simp only [V, hostOps0, hostOps0_1, hostOps0_2, List.flatten_cons, List.flatten_nil, List.append_nil, List.cons_append, List.nil_append]
  entry_read; pointwise; blk_ext [idx t]

theorem blk3 (k : Fin 1024) (n : Fin 1024) :
    iblk m c 3 t (ix2 k n) = m ((c : Thread nD τ).loc main_arg2) (ix2 k ⟨2304 + n, by omega⟩) := by
  blk_simp [iblk, idx t]
  simp only [V, hostOps0, hostOps0_1, hostOps0_2, List.flatten_cons, List.flatten_nil, List.append_nil, List.cons_append, List.nil_append]
  entry_read; pointwise; blk_ext [idx t]

theorem blk4 (k : Fin 1024) (n : Fin 256) :
    iblk m c 4 t (ix2 k n) = m ((c : Thread nD τ).loc main_arg2) (ix2 k ⟨3328 + n, by omega⟩) := by
  blk_simp [iblk, idx t]
  simp only [V, hostOps0, hostOps0_1, hostOps0_2, List.flatten_cons, List.flatten_nil, List.append_nil, List.cons_append, List.nil_append]
  entry_read; pointwise; blk_ext [idx t]

theorem blk5 (k : Fin 1024) (n : Fin 128) :
    iblk m c 5 t (ix2 k n) = if h : n.val < 24 then m ((c : Thread nD τ).loc main_arg2) (ix2 k ⟨3584 + n, by omega⟩) else (0 : EReal) := by
  blk_simp [iblk, idx t]
  simp only [V, hostOps0, hostOps0_1, hostOps0_2, List.flatten_cons, List.flatten_nil, List.append_nil, List.cons_append, List.nil_append]
  entry_read
  have hy : ((View.whole main_v2).slice (win0_5.rect t)).emb (ix2 k n) = ix2 k n := by blk_ext [idx t]
  rw [hy]
  show pad S1024x128 ![0, 0] ![0, 104] ![0, 0]
    (extractStridedSlice (s := S1024x3608) S1024x24 ![0, 3584] (truncf (F := Ideal) (s := S1024x3608) (φ := .f32) .bf16 (m ((c : Thread nD τ).loc main_arg2)) bitsLt_bf16_f32) slices_S1024x3608_S1024x24_0_3584)
    (sitofp .bf16 (constantI S_ 32 0#32)) pads_S1024x24_S1024x128_000_01040 h_S_ (ix2 k n) = _
  pointwise
  rw [show FloatOps.sitofp (F := Ideal) FTy.bf16 0#32 = (0 : EReal) by simp [FloatOps.sitofp]]

end Blocks
/-- The first result: the columns of queries, keys and values. -/
theorem final6 (c : Dev nD) : (dats m 0 c).arrAt 6 cfg0.N
    = qkv (whole (m ((c : Thread nD τ).loc main_arg0)) (m ((c : Thread nD τ).loc main_arg1)) (m ((c : Thread nD τ).loc main_arg2))) := by
  refine (dats m 0 c).arrAt_eq_of_covers 6 _ (by decide +kernel) fun t _ y => ?_
  blk_simp
  rw [after0_6]
  frame_out
  idx_vars y
  obtain rfl : y0 = 0 := Subsingleton.elim _ _
  have hy : ((View.whole main_v7_0).slice (win0_6.rect t)).emb (ix3 0 y1 y2) = ix3 (bat t) (tok t y1) y2 := by
    blk_ext [idx t, bat, tok]
  rw [hy, qkv_at, whole_at]
  refine (qkv_of _ _ _ y1 y2).trans ?_
  simp only [blk0, blk1, blk2]

/-- The second result: the columns of the gate. -/
theorem final7 (c : Dev nD) : (dats m 0 c).arrAt 7 cfg0.N
    = zed (whole (m ((c : Thread nD τ).loc main_arg0)) (m ((c : Thread nD τ).loc main_arg1)) (m ((c : Thread nD τ).loc main_arg2))) := by
  refine (dats m 0 c).arrAt_eq_of_covers 7 _ (by decide +kernel) fun t _ y => ?_
  blk_simp
  rw [after0_7]
  frame_out
  idx_vars y
  obtain rfl : y0 = 0 := Subsingleton.elim _ _
  have hy : ((View.whole main_v7_1).slice (win0_7.rect t)).emb (ix3 0 y1 y2) = ix3 (bat t) (tok t y1) y2 := by
    blk_ext [idx t, bat, tok]
  rw [hy, zed_at, whole_at]
  refine (zed_of _ _ _ y1 y2).trans ?_
  simp only [blk0, blk1, blk3]

/-- The third result: the columns of the memory queries. -/
theorem final8 (c : Dev nD) : (dats m 0 c).arrAt 8 cfg0.N
    = memq (whole (m ((c : Thread nD τ).loc main_arg0)) (m ((c : Thread nD τ).loc main_arg1)) (m ((c : Thread nD τ).loc main_arg2))) := by
  refine (dats m 0 c).arrAt_eq_of_covers 8 _ (by decide +kernel) fun t _ y => ?_
  blk_simp
  rw [after0_8]
  frame_out
  idx_vars y
  obtain rfl : y0 = 0 := Subsingleton.elim _ _
  have hy : ((View.whole main_v7_2).slice (win0_8.rect t)).emb (ix3 0 y1 y2) = ix3 (bat t) (tok t y1) y2 := by
    blk_ext [idx t, bat, tok]
  rw [hy, memq_at, whole_at]
  refine (memq_of _ _ _ y1 y2).trans ?_
  simp only [ld0, ld1, blk4]

/-- A product with a zero column is zero. -/
theorem proj_zero (f g : Fin 1024 → EReal) : Rms.proj f g (fun _ => 0) = 0 := by
  simp [Rms.proj]

/-- The fourth result: the columns of the rates and decays, then zero columns. -/
theorem final9 (c : Dev nD) : (dats m 0 c).arrAt 9 cfg0.N
    = rates (whole (m ((c : Thread nD τ).loc main_arg0)) (m ((c : Thread nD τ).loc main_arg1)) (m ((c : Thread nD τ).loc main_arg2))) := by
  refine (dats m 0 c).arrAt_eq_of_covers 9 _ (by decide +kernel) fun t _ y => ?_
  blk_simp
  rw [after0_9]
  frame_out
  idx_vars y
  obtain rfl : y0 = 0 := Subsingleton.elim _ _
  have hy : ((View.whole main_v7_3).slice (win0_9.rect t)).emb (ix3 0 y1 y2) = ix3 (bat t) (tok t y1) y2 := by
    blk_ext [idx t, bat, tok]
  rw [hy, rates_at]
  refine (rates_of _ _ _ y1 y2).trans ?_
  simp only [ld0, ld1, blk5]
  by_cases h : y2.val < 24
  · simp only [h, dite_true, whole_at]
  · simp only [h, dite_false]
    exact proj_zero _ _

end Kernel

theorem frame_kernel : Cert.quiescent_Kernel3 := fun m g _ => Cert.Kernel3.Gen.frame m g
theorem frame_ideal : Cert.quiescent_Kernel3Ideal := fun m g _ => Cert.Kernel3Ideal.Gen.frame m g
theorem frame_reference : Cert.quiescent_Reference3Ideal := fun m g _ =>
  (θ_run Cert.Reference3Ideal.defs _ _).mono (fun r h => ⟨fun c => (h c).2.2.2.2,
      Idealize.ShloMosaic.sem_eq_zero_of_no_sems (by decide) r.2⟩)
    (Cert.Reference3Ideal.Value.run m g)
theorem preserved : Cert.preserves_Kernel3_Kernel3Ideal := trivial

theorem algebraic : Cert.algebraic_Kernel3Ideal_Reference3Ideal := by
  pair_intro
  · run_from Cert.Kernel3Ideal.Value.run_blocks m g
  · run_from Cert.Reference3Ideal.Value.run m' g'
    · exact (final6 m c).symm
    · exact (final7 m c).symm
    · exact (final8 m c).symm
    · exact (final9 m c).symm

end Cert.InprojZero
-- ==== Proof.InprojOneRef.lean ====
module

public import proofs.«01_k».proof.Proof.Rms
public import proofs.«01_k».proof.Proof.Gen.Reference4Ideal.Run
public import Idealize.ShloMosaic.Lib.Claim
public import Idealize.ShloMosaic.Lib.Pointwise

/-! The reference of layer 1's input projection, cut into named stages and read at an index. -/

@[expose] public section

set_option maxRecDepth 16384

noncomputable section

namespace Cert.InprojOne

open Idealize.ShloMosaic Idealize.ShloMosaic.TcCoe Idealize.SL.Sem
open Cert.Reference4Ideal Cert.Reference4Ideal.Gen

/-- The normalised rows of the residual stream. -/
def normed (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1
          (Host.reduceAdd (mulf x x) (constant S_ .f32 0x00000000#32) reducesTo_S8x4096x1024_S8x4096_d2 h_S_))
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- The product of the normalised rows with the whole weight. -/
def whole (x : FVec Ideal S8x4096x1024 .f32) (g : FVec Ideal S1024 .f32) (w : FVec Ideal S1024x3584 .f32) : FVec Ideal S8x4096x3584 .f32 :=
  Host.dotGeneral dot_S8x4096x1024_S1024x3584_S8x4096x3584_2_0_01_1_n_n none (normed x g) w

/-- The frequencies of the rotary embedding: 10000 to the power −i/32. -/
def freqs : FVec Ideal S32 .f32 :=
  Host.powf (broadcastInDim S32 ![] bcast_S_S32 (constant S_ .f32 0x461C4000#32))
    (mulf (Host.negf (sitofp .f32 (iotaInDim S32 32 0))) (broadcastInDim S32 ![] bcast_S_S32 (constant S_ .f32 0x3D000000#32)))

/-- The angle of each token and frequency. -/
def angles (pos : IVec S8x4096 32) : FVec Ideal S8x4096x32 .f32 :=
  mulf (broadcastInDim S8x4096x32 ![0, 1, 2] bcast_S8x4096x1_S8x4096x32_0_1_2 (broadcastInDim S8x4096x1 ![0, 1] bcast_S8x4096_S8x4096x1_0_1 (sitofp .f32 pos)))
    (broadcastInDim S8x4096x32 ![0, 1, 2] bcast_S1x1x32_S8x4096x32_0_1_2 (broadcastInDim S1x1x32 ![2] bcast_S32_S1x1x32_2 freqs))

/-- One number per token and frequency, for every head. -/
def heads (v : FVec Ideal S8x4096x32 .f32) : FVec Ideal S8x4096x12x32 .f32 :=
  broadcastInDim S8x4096x12x32 ![0, 1, 2, 3] bcast_S8x4096x1x32_S8x4096x12x32_0_1_2_3 (broadcastInDim S8x4096x1x32 ![0, 1, 3] bcast_S8x4096x32_S8x4096x1x32_0_1_3 v)

/-- The first half of each head's coordinates. -/
def fore (y : FVec Ideal S8x4096x768 .f32) : FVec Ideal S8x4096x12x32 .f32 :=
  extractStridedSlice S8x4096x12x32 ![0, 0, 0, 0] (shapeCast S8x4096x12x64 y shapeCasts_S8x4096x768_S8x4096x12x64) slices_S8x4096x12x64_S8x4096x12x32_0_0_0_0

/-- The second half of each head's coordinates. -/
def hind (y : FVec Ideal S8x4096x768 .f32) : FVec Ideal S8x4096x12x32 .f32 :=
  extractStridedSlice S8x4096x12x32 ![0, 0, 0, 32] (shapeCast S8x4096x12x64 y shapeCasts_S8x4096x768_S8x4096x12x64) slices_S8x4096x12x64_S8x4096x12x32_0_0_0_32

/-- Two halves joined to heads. -/
def pair (a b : FVec Ideal S8x4096x12x32 .f32) : FVec Ideal S8x4096x12x64 .f32 :=
  concatenate S8x4096x12x64 3 [⟨S8x4096x12x32, a⟩, ⟨S8x4096x12x32, b⟩] concatenates_S8x4096x12x32_S8x4096x12x32_S8x4096x12x64_d3

/-- The heads side by side. -/
def join (y : FVec Ideal S8x4096x12x64 .f32) : FVec Ideal S8x4096x768 .bf16 :=
  truncf .bf16 (shapeCast S8x4096x768 y shapeCasts_S8x4096x12x64_S8x4096x768) bitsLt_bf16_f32

/-- The rotary embedding of `y`. -/
def rope (y : FVec Ideal S8x4096x768 .f32) (pos : IVec S8x4096 32) : FVec Ideal S8x4096x768 .bf16 :=
  join (pair (subf (mulf (fore y) (heads (Host.cos (angles pos)))) (mulf (hind y) (heads (Host.sin (angles pos)))))
    (addf (mulf (hind y) (heads (Host.cos (angles pos)))) (mulf (fore y) (heads (Host.sin (angles pos))))))

/-- The columns of the queries. -/
def qcols (p : FVec Ideal S8x4096x3584 .f32) : FVec Ideal S8x4096x768 .f32 :=
  extractStridedSlice S8x4096x768 ![0, 0, 0] p slices_S8x4096x3584_S8x4096x768_0_0_0

/-- The columns of the keys. -/
def kcols (p : FVec Ideal S8x4096x3584 .f32) : FVec Ideal S8x4096x768 .f32 :=
  extractStridedSlice S8x4096x768 ![0, 0, 768] p slices_S8x4096x3584_S8x4096x768_0_0_768

/-- The columns of the values. -/
def vals (p : FVec Ideal S8x4096x3584 .f32) : FVec Ideal S8x4096x768 .bf16 :=
  truncf .bf16 (extractStridedSlice S8x4096x768 ![0, 0, 1536] p slices_S8x4096x3584_S8x4096x768_0_0_1536) bitsLt_bf16_f32

/-- The columns of the gate. -/
def zed (p : FVec Ideal S8x4096x3584 .f32) : FVec Ideal S8x4096x1024 .bf16 :=
  truncf .bf16 (extractStridedSlice S8x4096x1024 ![0, 0, 2304] p slices_S8x4096x3584_S8x4096x1024_0_0_2304) bitsLt_bf16_f32

/-- The columns of the memory queries. -/
def memq (p : FVec Ideal S8x4096x3584 .f32) : FVec Ideal S8x4096x256 .bf16 :=
  truncf .bf16 (extractStridedSlice S8x4096x256 ![0, 0, 3328] p slices_S8x4096x3584_S8x4096x256_0_0_3328) bitsLt_bf16_f32

theorem normed_at (x : FVec Ideal S8x4096x1024 .f32) (g : FVec Ideal S1024 .f32) (b : Fin 8) (s : Fin 4096) (k : Fin 1024) :
    normed x g (ix3 b s k) = x (ix3 b s k) * Rms.scale (fun k => x (ix3 b s k)) * g (ix1 k) := by
  pointwise [normed, Rms.scale]

theorem whole_at (x : FVec Ideal S8x4096x1024 .f32) (g : FVec Ideal S1024 .f32) (w : FVec Ideal S1024x3584 .f32) (b : Fin 8) (s : Fin 4096) (n : Fin 3584) :
    whole x g w (ix3 b s n) = Rms.proj (fun k => x (ix3 b s k)) (fun k => g (ix1 k)) (fun k => w (ix2 k n)) := by
  have e : whole x g w (ix3 b s n) = ∑ k : Fin 1024, normed x g (ix3 b s k) * w (ix2 k n) := by
    pointwise [whole]
  simp only [e, normed_at, Rms.proj]

theorem qcols_at (p : FVec Ideal S8x4096x3584 .f32) (b : Fin 8) (s : Fin 4096) (n : Fin 768) : qcols p (ix3 b s n) = p (ix3 b s ⟨n, by omega⟩) := by
  pointwise [qcols]

theorem kcols_at (p : FVec Ideal S8x4096x3584 .f32) (b : Fin 8) (s : Fin 4096) (n : Fin 768) : kcols p (ix3 b s n) = p (ix3 b s ⟨768 + n, by omega⟩) := by
  pointwise [kcols]

theorem vals_at (p : FVec Ideal S8x4096x3584 .f32) (b : Fin 8) (s : Fin 4096) (n : Fin 768) : vals p (ix3 b s n) = p (ix3 b s ⟨1536 + n, by omega⟩) := by
  pointwise [vals]

theorem zed_at (p : FVec Ideal S8x4096x3584 .f32) (b : Fin 8) (s : Fin 4096) (n : Fin 1024) : zed p (ix3 b s n) = p (ix3 b s ⟨2304 + n, by omega⟩) := by
  pointwise [zed]

theorem memq_at (p : FVec Ideal S8x4096x3584 .f32) (b : Fin 8) (s : Fin 4096) (n : Fin 256) : memq p (ix3 b s n) = p (ix3 b s ⟨3328 + n, by omega⟩) := by
  pointwise [memq]

/-- The frequency of coordinate `i`. -/
def rate (i : ℕ) : EReal :=
  Ideal.pow (Ideal.ofBits .f32 0x461C4000#32) (-(FloatOps.sitofp (F := Ideal) .f32 (BitVec.ofNat 32 i)) * Ideal.ofBits .f32 0x3D000000#32)

/-- The angle of a position and coordinate `i`. -/
def angle (p : BitVec 32) (i : ℕ) : EReal := FloatOps.sitofp (F := Ideal) .f32 p * rate i

theorem freqs_at (i : Fin 32) : freqs (ix1 i) = rate i := by
  pointwise [freqs, rate]

theorem angles_at (pos : IVec S8x4096 32) (b : Fin 8) (s : Fin 4096) (i : Fin 32) :
    angles pos (ix3 b s i) = angle (pos (ix2 b s)) i := by
  pointwise [angles]
  rw [freqs_at, angle]

theorem heads_at (v : FVec Ideal S8x4096x32 .f32) (b : Fin 8) (s : Fin 4096) (h : Fin 12) (i : Fin 32) :
    heads v (ix4 b s h i) = v (ix3 b s i) := by
  pointwise [heads]

theorem fore_at (y : FVec Ideal S8x4096x768 .f32) (b : Fin 8) (s : Fin 4096) (h : Fin 12) (i : Fin 32) :
    fore y (ix4 b s h i) = y (ix3 b s ⟨h * 64 + i, by omega⟩) := by
  pointwise [fore]

theorem hind_at (y : FVec Ideal S8x4096x768 .f32) (b : Fin 8) (s : Fin 4096) (h : Fin 12) (i : Fin 32) :
    hind y (ix4 b s h i) = y (ix3 b s ⟨h * 64 + (32 + i), by omega⟩) := by
  pointwise [hind]

theorem pair_at (a d : FVec Ideal S8x4096x12x32 .f32) (b : Fin 8) (s : Fin 4096) (h : Fin 12) (i : Fin 64) :
    pair a d (ix4 b s h i) = if hi : i.val < 32 then a (ix4 b s h ⟨i, hi⟩) else d (ix4 b s h ⟨i - 32, by omega⟩) := by
  pointwise [pair]

theorem join_at (y : FVec Ideal S8x4096x12x64 .f32) (b : Fin 8) (s : Fin 4096) (n : Fin 768) :
    join y (ix3 b s n) = y (ix4 b s ⟨n / 64, by omega⟩ ⟨n % 64, by omega⟩) := by
  pointwise [join]

/-- The rotary embedding of a row `f` of head coordinates: each pair of coordinates 32 apart within a head of 64 is
    turned by its angle. -/
def turn (f : Fin 768 → EReal) (p : BitVec 32) (n : Fin 768) : EReal :=
  if h : n.val % 64 < 32 then f n * Ideal.cos (angle p (n.val % 64)) - f ⟨n + 32, by omega⟩ * Ideal.sin (angle p (n.val % 64))
  else f n * Ideal.cos (angle p (n.val % 64 - 32)) + f ⟨n - 32, by omega⟩ * Ideal.sin (angle p (n.val % 64 - 32))

theorem cos_at (v : FVec Ideal S8x4096x32 .f32) (j : S8x4096x32.Idx) : Host.cos v j = Ideal.cos (v j) := rfl
theorem sin_at (v : FVec Ideal S8x4096x32 .f32) (j : S8x4096x32.Idx) : Host.sin v j = Ideal.sin (v j) := rfl

theorem rope_at (y : FVec Ideal S8x4096x768 .f32) (pos : IVec S8x4096 32) (b : Fin 8) (s : Fin 4096) (n : Fin 768) :
    rope y pos (ix3 b s n) = turn (fun k => y (ix3 b s k)) (pos (ix2 b s)) n := by
  unfold rope turn
  rw [join_at, pair_at]
  by_cases h : n.val % 64 < 32
  · rw [dif_pos h, dif_pos h]
    show fore y _ * heads _ _ - hind y _ * heads _ _ = _
    rw [fore_at, hind_at, heads_at, heads_at, cos_at, sin_at, angles_at]
    have e1 : (⟨n.val / 64 * 64 + n.val % 64, by omega⟩ : Fin 768) = n := Fin.ext (by simp only; omega)
    have e2 : (⟨n.val / 64 * 64 + (32 + n.val % 64), by omega⟩ : Fin 768) = ⟨n + 32, by omega⟩ := Fin.ext (by simp only; omega)
    simp only [e1, e2]
  · rw [dif_neg h, dif_neg h]
    show hind y _ * heads _ _ + fore y _ * heads _ _ = _
    rw [fore_at, hind_at, heads_at, heads_at, cos_at, sin_at, angles_at]
    have e1 : (⟨n.val / 64 * 64 + (32 + (n.val % 64 - 32)), by omega⟩ : Fin 768) = n := Fin.ext (by simp only; omega)
    have e2 : (⟨n.val / 64 * 64 + (n.val % 64 - 32), by omega⟩ : Fin 768) = ⟨n - 32, by omega⟩ := Fin.ext (by simp only; omega)
    simp only [e1, e2]

end Cert.InprojOne
-- ==== Proof.InprojOneKernel.lean ====
module

public import proofs.«01_k».proof.Proof.InprojOneRef
public import proofs.«01_k».proof.Proof.Gen.Kernel4Ideal.Value
public import Idealize.ShloMosaic.Lib.Claim
public import Idealize.ShloMosaic.Lib.Pointwise
public import Idealize.ShloMosaic.Lib.Pipeline.ValueKit

/-! What one grid step of layer 1's input projection leaves in its five result blocks. -/

@[expose] public section

set_option maxRecDepth 16384

noncomputable section

namespace Cert.InprojOne

open Idealize.ShloMosaic Idealize.ShloMosaic.TcCoe Idealize.SL.Sem
open Cert.Kernel4Ideal Cert.Kernel4Ideal.Gen

/-- The lane mask: set on the lanes of a head's first half. -/
theorem mask_word : ∀ l : Fin 128, IntOp.cmpi CmpIPredicate.slt (IntOp.andi (BitVec.ofNat 32 l.val) 63#32) 32#32
    = if l.val % 64 < 32 then 1#1 else 0#1 := by decide +kernel

theorem mask_of (r : Fin 512) (l : Fin 128) : k0_pay5 (ix2 r l) = if l.val % 64 < 32 then 1#1 else 0#1 := by
  pointwise [k0_pay5]
  exact mask_word l

theorem angle_of (p : IVec S1x512x1 32) (f : FVec Ideal S1x128 .f32) (r : Fin 512) (l : Fin 128) (hf : ∀ l : Fin 128, f (ix2 0 l) = rate (l % 32)) :
    k0_pay3 (F := Ideal) p f (ix2 r l) = angle (p (ix3 0 r 0)) (l % 32) := by
  pointwise [k0_pay3]
  rw [hf, angle]

theorem cosine_of (p : IVec S1x512x1 32) (f : FVec Ideal S1x128 .f32) (r : Fin 512) (l : Fin 128) :
    k0_pay4 (F := Ideal) p f (ix2 r l) = Ideal.cos (k0_pay3 (F := Ideal) p f (ix2 r l)) := by
  pointwise [k0_pay4]

theorem sine_of (p : IVec S1x512x1 32) (f : FVec Ideal S1x128 .f32) (r : Fin 512) (l : Fin 128) :
    k0_pay6 (F := Ideal) p f (ix2 r l) = Scalar.select (k0_pay5 (ix2 r l)) (0 - Ideal.sin (k0_pay3 (F := Ideal) p f (ix2 r l)))
      (Ideal.sin (k0_pay3 (F := Ideal) p f (ix2 r l))) := by
  pointwise [k0_pay6]

theorem turn_of (c s y : FVec Ideal S512x128 .f32) (i : IVec S512x128 1) (r : Fin 512) (l : Fin 128) :
    k0_pay9 (F := Ideal) c i s y (ix3 0 r l) = y (ix2 r l) * c (ix2 r l) +
      Scalar.select (i (ix2 r l)) (y (ix2 r ⟨(l.val + 128 - 96) % 128, by omega⟩)) (y (ix2 r ⟨(l.val + 128 - 32) % 128, by omega⟩)) * s (ix2 r l) := by
  pointwise [k0_pay9]

theorem select_one (a b : EReal) : Scalar.select (1#1) a b = a := by simp [Scalar.select]
theorem select_zero (a b : EReal) : Scalar.select (0#1) a b = b := by simp [Scalar.select]

/-- One slab of 128 lanes, two heads, turned by the angles of its rows: the rotary embedding of the row it is cut from. -/
theorem turn_tile (p : IVec S1x512x1 32) (f : FVec Ideal S1x128 .f32) (hf : ∀ l : Fin 128, f (ix2 0 l) = rate (l % 32))
    (y : FVec Ideal S512x128 .f32) (r : Fin 512) (Y : Fin 768 → EReal) (o : Fin 6)
    (hy : ∀ l : Fin 128, y (ix2 r l) = Y ⟨128 * o + l, by omega⟩) (l : Fin 128) :
    k0_pay9 (F := Ideal) (k0_pay4 (F := Ideal) p f) k0_pay5 (k0_pay6 (F := Ideal) p f) y (ix3 0 r l) = turn Y (p (ix3 0 r 0)) ⟨128 * o + l, by omega⟩ := by
  rw [turn_of, cosine_of, sine_of, mask_of, angle_of p f r l hf, hy, turn]
  have hm : (128 * o.val + l.val) % 64 = l.val % 64 := by omega
  by_cases h : l.val % 64 < 32
  · rw [if_pos h, dif_pos (by simp only [hm]; exact h)]
    have e : (l.val : ℕ) % 32 = l.val % 64 := by omega
    have e2 : (⟨(l.val + 128 - 96) % 128, by omega⟩ : Fin 128) = ⟨l + 32, by omega⟩ := Fin.ext (by simp only; omega)
    simp only [select_one, e2, hy, hm, e, zero_add, mul_neg, sub_eq_add_neg, add_assoc]
  · rw [if_neg h, dif_neg (by simp only [hm]; exact h)]
    have e : (l.val : ℕ) % 32 = l.val % 64 - 32 := by omega
    have e2 : (⟨(l.val + 128 - 32) % 128, by omega⟩ : Fin 128) = ⟨l - 32, by omega⟩ := Fin.ext (by simp only; omega)
    have e3 : 128 * o.val + (l.val - 32) = 128 * o.val + l.val - 32 := by omega
    simp only [select_zero, e2, hy, hm, e, e3]

theorem rows_of (x : FVec Ideal S1x512x1024 .f32) (g : FVec Ideal S1x1024 .f32) (r : Fin 512) (k : Fin 1024) :
    k0_pay2 (F := Ideal) x g (ix2 r k) = x (ix3 0 r k) * Rms.scale (fun k => x (ix3 0 r k)) * g (ix2 0 k) := by
  pointwise [k0_pay2, Rms.scale]

theorem wide_of (x : FVec Ideal S1x512x1024 .f32) (g : FVec Ideal S1x1024 .f32) (w : FVec Ideal S1024x768 .bf16) (r : Fin 512) (n : Fin 768) :
    k0_pay16 (F := Ideal) (k0_pay2 (F := Ideal) x g) w (ix2 r n) = Rms.proj (fun k => x (ix3 0 r k)) (fun k => g (ix2 0 k)) (fun k => w (ix2 k n)) := by
  have e : k0_pay16 (F := Ideal) (k0_pay2 (F := Ideal) x g) w (ix2 r n) = ∑ k : Fin 1024, k0_pay2 (F := Ideal) x g (ix2 r k) * w (ix2 k n) := by
    pointwise [k0_pay16]
  simp only [e, rows_of, Rms.proj]

theorem vals_of (x : FVec Ideal S1x512x1024 .f32) (g : FVec Ideal S1x1024 .f32) (w : FVec Ideal S1024x768 .bf16) (r : Fin 512) (n : Fin 768) :
    k0_pay27 (F := Ideal) (k0_pay2 (F := Ideal) x g) w (ix3 0 r n) = Rms.proj (fun k => x (ix3 0 r k)) (fun k => g (ix2 0 k)) (fun k => w (ix2 k n)) := by
  have e : k0_pay27 (F := Ideal) (k0_pay2 (F := Ideal) x g) w (ix3 0 r n) = ∑ k : Fin 1024, k0_pay2 (F := Ideal) x g (ix2 r k) * w (ix2 k n) := by
    pointwise [k0_pay27]
  simp only [e, rows_of, Rms.proj]

theorem zed_of (x : FVec Ideal S1x512x1024 .f32) (g : FVec Ideal S1x1024 .f32) (w : FVec Ideal S1024x1024 .bf16) (r : Fin 512) (n : Fin 1024) :
    k0_pay28 (F := Ideal) (k0_pay2 (F := Ideal) x g) w (ix3 0 r n) = Rms.proj (fun k => x (ix3 0 r k)) (fun k => g (ix2 0 k)) (fun k => w (ix2 k n)) := by
  have e : k0_pay28 (F := Ideal) (k0_pay2 (F := Ideal) x g) w (ix3 0 r n) = ∑ k : Fin 1024, k0_pay2 (F := Ideal) x g (ix2 r k) * w (ix2 k n) := by
    pointwise [k0_pay28]
  simp only [e, rows_of, Rms.proj]

theorem memq_of (x : FVec Ideal S1x512x1024 .f32) (g : FVec Ideal S1x1024 .f32) (w : FVec Ideal S1024x256 .bf16) (r : Fin 512) (n : Fin 256) :
    k0_pay1 (F := Ideal) (k0_pay2 (F := Ideal) x g) w (ix3 0 r n) = Rms.proj (fun k => x (ix3 0 r k)) (fun k => g (ix2 0 k)) (fun k => w (ix2 k n)) := by
  have e : k0_pay1 (F := Ideal) (k0_pay2 (F := Ideal) x g) w (ix3 0 r n) = ∑ k : Fin 1024, k0_pay2 (F := Ideal) x g (ix2 r k) * w (ix2 k n) := by
    pointwise [k0_pay1]
  simp only [e, rows_of, Rms.proj]

/-- A slab of the wide product, entry by entry. -/
theorem slab (y : FVec Ideal S512x768 .f32) (o : Fin 6) (off : Fin 2 → Nat) (ho : off = ![0, 128 * o.val]) (h : S512x768.Slices off S512x128) (r : Fin 512) (l : Fin 128) :
    extractStridedSlice S512x128 off y h (ix2 r l) = y (ix2 r ⟨128 * o + l, by omega⟩) := by
  subst ho
  pointwise

/-- The rotary embedding of a tile's rows, the product's columns given by a weight block. -/
def turned (x : FVec Ideal S1x512x1024 .f32) (g : FVec Ideal S1x1024 .f32) (p : IVec S1x512x1 32) (w : FVec Ideal S1024x768 .bf16) : FVec Ideal S1x512x768 .bf16 :=
  fun j => turn (fun n => Rms.proj (fun k => x (ix3 0 (j 1) k)) (fun k => g (ix2 0 k)) (fun k => w (ix2 k n))) (p (ix3 0 (j 1) 0)) (j 2)

/-- What a slab's store leaves is the piece of `turned` under its rectangle. -/
theorem piece (x : FVec Ideal S1x512x1024 .f32) (g : FVec Ideal S1x1024 .f32) (p : IVec S1x512x1 32) (f : FVec Ideal S1x128 .f32)
    (hf : ∀ l : Fin 128, f (ix2 0 l) = rate (l % 32)) (w : FVec Ideal S1024x768 .bf16) (o : Fin 6)
    (h : S512x768.Slices ![0, 128 * o.val] S512x128) (r : Fin 512) (l : Fin 128) :
    k0_pay9 (F := Ideal) (k0_pay4 (F := Ideal) p f) k0_pay5 (k0_pay6 (F := Ideal) p f)
        (extractStridedSlice S512x128 ![0, 128 * o.val] (k0_pay16 (F := Ideal) (k0_pay2 (F := Ideal) x g) w) h) (ix3 0 r l)
      = turned x g p w (ix3 0 r ⟨128 * o + l, by omega⟩) :=
  turn_tile p f hf _ r (fun n => Rms.proj (fun k => x (ix3 0 r k)) (fun k => g (ix2 0 k)) (fun k => w (ix2 k n))) o
    (fun l => (slab _ o _ rfl h r l).trans (wide_of x g w r _)) l

/-- The queries' block. -/
theorem queries_of (x0 : FVec Ideal S1x512x1024 .f32) (x1 : FVec Ideal S1x1024 .f32) (x2 : IVec S1x512x1 32) (x3 : FVec Ideal S1x128 .f32)
    (x4 x5 x6 : FVec Ideal S1024x768 .bf16) (x7 : FVec Ideal S1024x1024 .bf16) (x8 : FVec Ideal S1024x256 .bf16)
    (hf : ∀ l : Fin 128, x3 (ix2 0 l) = rate (l % 32)) : out0_9 (F := Ideal) x0 x1 x2 x3 x4 x5 x6 x7 x8 = turned x0 x1 x2 x4 := by
  funext j
  unfold out0_9 k0_pay30 k0_pay31 k0_pay32 k0_pay33
  simp (disch := decide) only [View.ld_unit_lit']
  refine View.canon_apply_of_pieces (Val := Elt Ideal) (e := .bf16) (turned x0 x1 x2 x4) _ ?_ j (cover0_9 _ _ _ _ _ _ j)
  intro q hq
  simp only [List.mem_cons, List.not_mem_nil, or_false] at hq
  rcases hq with rfl | rfl | rfl | rfl | rfl | rfl
  · intro y
    idx_vars y
    obtain rfl : y0 = 0 := Subsingleton.elim _ _
    have hy : r0_10.emb (ix3 0 y1 y2) = ix3 0 y1 ⟨640 + y2, by omega⟩ := by blk_ext []
    rw [hy]
    exact piece x0 x1 x2 x3 hf x4 5 slices_S512x768_o0_640_S512x128 y1 y2
  · intro y
    idx_vars y
    obtain rfl : y0 = 0 := Subsingleton.elim _ _
    have hy : r0_9.emb (ix3 0 y1 y2) = ix3 0 y1 ⟨512 + y2, by omega⟩ := by blk_ext []
    rw [hy]
    exact piece x0 x1 x2 x3 hf x4 4 slices_S512x768_o0_512_S512x128 y1 y2
  · intro y
    idx_vars y
    obtain rfl : y0 = 0 := Subsingleton.elim _ _
    have hy : r0_8.emb (ix3 0 y1 y2) = ix3 0 y1 ⟨384 + y2, by omega⟩ := by blk_ext []
    rw [hy]
    exact piece x0 x1 x2 x3 hf x4 3 slices_S512x768_o0_384_S512x128 y1 y2
  · intro y
    idx_vars y
    obtain rfl : y0 = 0 := Subsingleton.elim _ _
    have hy : r0_7.emb (ix3 0 y1 y2) = ix3 0 y1 ⟨256 + y2, by omega⟩ := by blk_ext []
    rw [hy]
    exact piece x0 x1 x2 x3 hf x4 2 slices_S512x768_o0_256_S512x128 y1 y2
  · intro y
    idx_vars y
    obtain rfl : y0 = 0 := Subsingleton.elim _ _
    have hy : r0_6.emb (ix3 0 y1 y2) = ix3 0 y1 ⟨128 + y2, by omega⟩ := by blk_ext []
    rw [hy]
    exact piece x0 x1 x2 x3 hf x4 1 slices_S512x768_o0_128_S512x128 y1 y2
  · intro y
    idx_vars y
    obtain rfl : y0 = 0 := Subsingleton.elim _ _
    have hy : r0_5.emb (ix3 0 y1 y2) = ix3 0 y1 ⟨0 + y2, by omega⟩ := by blk_ext []
    rw [hy]
    exact piece x0 x1 x2 x3 hf x4 0 slices_S512x768_o0_0_S512x128 y1 y2

/-- The keys' block. -/
theorem keys_of (x0 : FVec Ideal S1x512x1024 .f32) (x1 : FVec Ideal S1x1024 .f32) (x2 : IVec S1x512x1 32) (x3 : FVec Ideal S1x128 .f32)
    (x4 x5 x6 : FVec Ideal S1024x768 .bf16) (x7 : FVec Ideal S1024x1024 .bf16) (x8 : FVec Ideal S1024x256 .bf16)
    (hf : ∀ l : Fin 128, x3 (ix2 0 l) = rate (l % 32)) : out0_10 (F := Ideal) x0 x1 x2 x3 x4 x5 x6 x7 x8 = turned x0 x1 x2 x5 := by
  funext j
  unfold out0_10 k0_pay30 k0_pay31 k0_pay32 k0_pay34 k0_pay29
  simp (disch := decide) only [View.ld_unit_lit']
  refine View.canon_apply_of_pieces (Val := Elt Ideal) (e := .bf16) (turned x0 x1 x2 x5) _ ?_ j (cover0_10 _ _ _ _ _ _ j)
  intro q hq
  simp only [List.mem_cons, List.not_mem_nil, or_false] at hq
  rcases hq with rfl | rfl | rfl | rfl | rfl | rfl
  · intro y
    idx_vars y
    obtain rfl : y0 = 0 := Subsingleton.elim _ _
    have hy : r0_10.emb (ix3 0 y1 y2) = ix3 0 y1 ⟨640 + y2, by omega⟩ := by blk_ext []
    rw [hy]
    exact piece x0 x1 x2 x3 hf x5 5 slices_S512x768_o0_640_S512x128 y1 y2
  · intro y
    idx_vars y
    obtain rfl : y0 = 0 := Subsingleton.elim _ _
    have hy : r0_9.emb (ix3 0 y1 y2) = ix3 0 y1 ⟨512 + y2, by omega⟩ := by blk_ext []
    rw [hy]
    exact piece x0 x1 x2 x3 hf x5 4 slices_S512x768_o0_512_S512x128 y1 y2
  · intro y
    idx_vars y
    obtain rfl : y0 = 0 := Subsingleton.elim _ _
    have hy : r0_8.emb (ix3 0 y1 y2) = ix3 0 y1 ⟨384 + y2, by omega⟩ := by blk_ext []
    rw [hy]
    exact piece x0 x1 x2 x3 hf x5 3 slices_S512x768_o0_384_S512x128 y1 y2
  · intro y
    idx_vars y
    obtain rfl : y0 = 0 := Subsingleton.elim _ _
    have hy : r0_7.emb (ix3 0 y1 y2) = ix3 0 y1 ⟨256 + y2, by omega⟩ := by blk_ext []
    rw [hy]
    exact piece x0 x1 x2 x3 hf x5 2 slices_S512x768_o0_256_S512x128 y1 y2
  · intro y
    idx_vars y
    obtain rfl : y0 = 0 := Subsingleton.elim _ _
    have hy : r0_6.emb (ix3 0 y1 y2) = ix3 0 y1 ⟨128 + y2, by omega⟩ := by blk_ext []
    rw [hy]
    exact piece x0 x1 x2 x3 hf x5 1 slices_S512x768_o0_128_S512x128 y1 y2
  · intro y
    idx_vars y
    obtain rfl : y0 = 0 := Subsingleton.elim _ _
    have hy : r0_5.emb (ix3 0 y1 y2) = ix3 0 y1 ⟨0 + y2, by omega⟩ := by blk_ext []
    rw [hy]
    exact piece x0 x1 x2 x3 hf x5 0 slices_S512x768_o0_0_S512x128 y1 y2

end Cert.InprojOne
-- ==== Proof.InprojOne.lean ====
module

public import proofs.«01_k».proof.Defs
public import proofs.«01_k».proof.Proof.InprojOneKernel
public import proofs.«01_k».proof.Proof.Gen.Kernel4
public import proofs.«01_k».proof.Proof.Gen.Kernel4.Frame

/-! The input projection of layer 1: its kernel's five results are the reference's. -/

@[expose] public section

set_option maxRecDepth 16384

noncomputable section

namespace Cert.InprojOne

open Idealize.ShloMosaic Idealize.ShloMosaic.TcCoe Idealize.SL.Sem
open Idealize.ShloMosaic.Pipeline (Dat)

section Kernel
open Cert.Kernel4Ideal Cert.Kernel4Ideal.Gen

variable (m : (ℓ : Loc nD τ sig) → Buf (Elt Ideal) ℓ)

/-- The block of each window at a grid step: batch entry `t / 8`, rows `512 (t % 8)` on. -/
theorem idx : ∀ t : Fin cfg0.N, win0_0.index t = ![t.val / 8, t.val % 8, 0] ∧ win0_1.index t = ![0, 0]
    ∧ win0_2.index t = ![t.val / 8, t.val % 8, 0] ∧ win0_3.index t = ![0, 0] ∧ win0_4.index t = ![0, 0] ∧ win0_5.index t = ![0, 0]
    ∧ win0_6.index t = ![0, 0] ∧ win0_7.index t = ![0, 0] ∧ win0_8.index t = ![0, 0]
    ∧ win0_9.index t = ![t.val / 8, t.val % 8, 0] ∧ win0_10.index t = ![t.val / 8, t.val % 8, 0]
    ∧ win0_11.index t = ![t.val / 8, t.val % 8, 0] ∧ win0_12.index t = ![t.val / 8, t.val % 8, 0]
    ∧ win0_13.index t = ![t.val / 8, t.val % 8, 0] :=
  (by decide +kernel : ∀ t : Fin grid0.N, _)

section Blocks
variable (c : Dev nD) (t : Fin cfg0.N) (r : Fin 512)

/-- The batch entry of a grid step. -/
def bat (t : Fin cfg0.N) : Fin 8 := ⟨t.val / 8, by have : t.val < 64 := t.isLt; omega⟩

/-- The token of a row of a grid step. -/
def tok (t : Fin cfg0.N) (r : Fin 512) : Fin 4096 := ⟨t.val % 8 * 512 + r, by omega⟩

theorem blk0 (n : Fin 1024) : iblk m c 0 t (ix3 0 r n) = m ((c : Thread nD τ).loc main_arg0) (ix3 (bat t) (tok t r) n) := by
  blk_point [iblk, V, idx t, bat, tok]

theorem ld0 (n : Fin 1024) :
    View.ld (iblk m c 0 t) r0_0 (ix3 0 r n) = m ((c : Thread nD τ).loc main_arg0) (ix3 (bat t) (tok t r) n) := by
  blk_point [iblk, V, idx t, bat, tok]

theorem blk1 (n : Fin 1024) : iblk m c 1 t (ix2 0 n) = m ((c : Thread nD τ).loc main_arg2) (ix1 n) := by
  blk_simp [iblk, idx t]; entry_read; pointwise; blk_ext [idx t]

theorem ld1 (n : Fin 1024) : View.ld (iblk m c 1 t) r0_1 (ix2 0 n) = m ((c : Thread nD τ).loc main_arg2) (ix1 n) := by
  exact (congrFun (View.ld_unit_zero (by funext i; fin_cases i <;> rfl) _ _) _).trans (blk1 m c t n)

theorem blk2 : iblk m c 2 t (ix3 0 r 0) = m ((c : Thread nD τ).loc main_arg1) (ix2 (bat t) (tok t r)) := by
  blk_simp [iblk, idx t]; entry_read; pointwise; blk_ext [idx t, bat, tok]

theorem blk3 (l : Fin 128) : iblk m c 3 t (ix2 0 l) = rate (l % 32) := by
  blk_simp [iblk, idx t]
  entry_read
  have hy : ((View.whole main_v10).slice (win0_3.rect t)).emb (ix2 0 l) = ix2 0 l := by blk_ext [idx t]
  rw [hy]
  pointwise
  rfl

theorem blk4 (k : Fin 1024) (n : Fin 768) : iblk m c 4 t (ix2 k n) = m ((c : Thread nD τ).loc main_arg3) (ix2 k ⟨n, by omega⟩) := by
  blk_simp [iblk, idx t]; entry_read; pointwise; blk_ext [idx t]

theorem blk5 (k : Fin 1024) (n : Fin 768) : iblk m c 5 t (ix2 k n) = m ((c : Thread nD τ).loc main_arg3) (ix2 k ⟨768 + n, by omega⟩) := by
  blk_simp [iblk, idx t]; entry_read; pointwise; blk_ext [idx t]

theorem blk6 (k : Fin 1024) (n : Fin 768) : iblk m c 6 t (ix2 k n) = m ((c : Thread nD τ).loc main_arg3) (ix2 k ⟨1536 + n, by omega⟩) := by
  blk_simp [iblk, idx t]; entry_read; pointwise; blk_ext [idx t]

theorem blk7 (k : Fin 1024) (n : Fin 1024) : iblk m c 7 t (ix2 k n) = m ((c : Thread nD τ).loc main_arg3) (ix2 k ⟨2304 + n, by omega⟩) := by
  blk_simp [iblk, idx t]; entry_read; pointwise; blk_ext [idx t]

theorem blk8 (k : Fin 1024) (n : Fin 256) : iblk m c 8 t (ix2 k n) = m ((c : Thread nD τ).loc main_arg3) (ix2 k ⟨3328 + n, by omega⟩) := by
  blk_simp [iblk, idx t]; entry_read; pointwise; blk_ext [idx t]

end Blocks

/-- The queries, turned. -/
theorem final9 (c : Dev nD) : (dats m 0 c).arrAt 9 cfg0.N
    = rope (qcols (whole (m ((c : Thread nD τ).loc main_arg0)) (m ((c : Thread nD τ).loc main_arg2)) (m ((c : Thread nD τ).loc main_arg3)))) (m ((c : Thread nD τ).loc main_arg1)) := by
  refine (dats m 0 c).arrAt_eq_of_covers 9 _ (by decide +kernel) fun t _ y => ?_
  blk_simp
  rw [after0_9]
  refine (congrFun (queries_of (iblk m c 0 t) (iblk m c 1 t) (iblk m c 2 t) (iblk m c 3 t) (iblk m c 4 t) (iblk m c 5 t) (iblk m c 6 t)
    (iblk m c 7 t) (iblk m c 8 t) (blk3 m c t)) y).trans ?_
  idx_vars y
  obtain rfl : y0 = 0 := Subsingleton.elim _ _
  have hy : ((View.whole main_v18_0).slice (win0_9.rect t)).emb (ix3 0 y1 y2) = ix3 (bat t) (tok t y1) y2 := by
    blk_ext [idx t, bat, tok]
  rw [hy, rope_at]
  simp only [qcols_at, whole_at]
  show turn (fun n => Rms.proj (fun k => iblk m c 0 t (ix3 0 y1 k)) (fun k => iblk m c 1 t (ix2 0 k)) (fun k => iblk m c 4 t (ix2 k n)))
    (iblk m c 2 t (ix3 0 y1 0)) y2 = _
  simp only [blk0, blk1, blk2, blk4]

/-- The keys, turned. -/
theorem final10 (c : Dev nD) : (dats m 0 c).arrAt 10 cfg0.N
    = rope (kcols (whole (m ((c : Thread nD τ).loc main_arg0)) (m ((c : Thread nD τ).loc main_arg2)) (m ((c : Thread nD τ).loc main_arg3)))) (m ((c : Thread nD τ).loc main_arg1)) := by
  refine (dats m 0 c).arrAt_eq_of_covers 10 _ (by decide +kernel) fun t _ y => ?_
  blk_simp
  rw [after0_10]
  refine (congrFun (keys_of (iblk m c 0 t) (iblk m c 1 t) (iblk m c 2 t) (iblk m c 3 t) (iblk m c 4 t) (iblk m c 5 t) (iblk m c 6 t)
    (iblk m c 7 t) (iblk m c 8 t) (blk3 m c t)) y).trans ?_
  idx_vars y
  obtain rfl : y0 = 0 := Subsingleton.elim _ _
  have hy : ((View.whole main_v18_1).slice (win0_10.rect t)).emb (ix3 0 y1 y2) = ix3 (bat t) (tok t y1) y2 := by
    blk_ext [idx t, bat, tok]
  rw [hy, rope_at]
  simp only [kcols_at, whole_at]
  show turn (fun n => Rms.proj (fun k => iblk m c 0 t (ix3 0 y1 k)) (fun k => iblk m c 1 t (ix2 0 k)) (fun k => iblk m c 5 t (ix2 k n)))
    (iblk m c 2 t (ix3 0 y1 0)) y2 = _
  simp only [blk0, blk1, blk2, blk5]

/-- The columns of the values. -/
theorem final11 (c : Dev nD) : (dats m 0 c).arrAt 11 cfg0.N
    = vals (whole (m ((c : Thread nD τ).loc main_arg0)) (m ((c : Thread nD τ).loc main_arg2)) (m ((c : Thread nD τ).loc main_arg3))) := by
  refine (dats m 0 c).arrAt_eq_of_covers 11 _ (by decide +kernel) fun t _ y => ?_
  blk_simp
  rw [after0_11]
  frame_out
  idx_vars y
  obtain rfl : y0 = 0 := Subsingleton.elim _ _
  have hy : ((View.whole main_v18_2).slice (win0_11.rect t)).emb (ix3 0 y1 y2) = ix3 (bat t) (tok t y1) y2 := by
    blk_ext [idx t, bat, tok]
  rw [hy, vals_at, whole_at]
  refine (vals_of _ _ _ y1 y2).trans ?_
  simp only [ld0, ld1, blk6]

/-- The columns of the gate. -/
theorem final12 (c : Dev nD) : (dats m 0 c).arrAt 12 cfg0.N
    = zed (whole (m ((c : Thread nD τ).loc main_arg0)) (m ((c : Thread nD τ).loc main_arg2)) (m ((c : Thread nD τ).loc main_arg3))) := by
  refine (dats m 0 c).arrAt_eq_of_covers 12 _ (by decide +kernel) fun t _ y => ?_
  blk_simp
  rw [after0_12]
  frame_out
  idx_vars y
  obtain rfl : y0 = 0 := Subsingleton.elim _ _
  have hy : ((View.whole main_v18_3).slice (win0_12.rect t)).emb (ix3 0 y1 y2) = ix3 (bat t) (tok t y1) y2 := by
    blk_ext [idx t, bat, tok]
  rw [hy, zed_at, whole_at]
  refine (zed_of _ _ _ y1 y2).trans ?_
  simp only [ld0, ld1, blk7]

/-- The columns of the memory queries. -/
theorem final13 (c : Dev nD) : (dats m 0 c).arrAt 13 cfg0.N
    = memq (whole (m ((c : Thread nD τ).loc main_arg0)) (m ((c : Thread nD τ).loc main_arg2)) (m ((c : Thread nD τ).loc main_arg3))) := by
  refine (dats m 0 c).arrAt_eq_of_covers 13 _ (by decide +kernel) fun t _ y => ?_
  blk_simp
  rw [after0_13]
  frame_out
  idx_vars y
  obtain rfl : y0 = 0 := Subsingleton.elim _ _
  have hy : ((View.whole main_v18_4).slice (win0_13.rect t)).emb (ix3 0 y1 y2) = ix3 (bat t) (tok t y1) y2 := by
    blk_ext [idx t, bat, tok]
  rw [hy, memq_at, whole_at]
  refine (memq_of _ _ _ y1 y2).trans ?_
  simp only [ld0, ld1, blk8]

end Kernel

theorem frame_kernel : Cert.quiescent_Kernel4 := fun m g _ => Cert.Kernel4.Gen.frame m g
theorem frame_ideal : Cert.quiescent_Kernel4Ideal := fun m g _ => Cert.Kernel4Ideal.Gen.frame m g
theorem frame_reference : Cert.quiescent_Reference4Ideal := fun m g _ =>
  (θ_run Cert.Reference4Ideal.defs _ _).mono (fun r h => ⟨fun c => (h c).2.2.2.2.2,
      Idealize.ShloMosaic.sem_eq_zero_of_no_sems (by decide) r.2⟩)
    (Cert.Reference4Ideal.Value.run m g)
theorem preserved : Cert.preserves_Kernel4_Kernel4Ideal := trivial

/-- The reference's queries and keys are the rotary embedding of their columns. -/
theorem reference_queries (m : (ℓ : Loc Reference4Ideal.nD Reference4Ideal.τ Reference4Ideal.sig) → Buf (Elt Ideal) ℓ) (c : Dev Reference4Ideal.nD) :
    Cert.Reference4Ideal.Value.res_main_v81 m c
      = rope (qcols (whole (m ((c.tc : Thread Reference4Ideal.nD Reference4Ideal.τ).loc Reference4Ideal.main_arg0))
          (m ((c.tc : Thread Reference4Ideal.nD Reference4Ideal.τ).loc Reference4Ideal.main_arg2))
          (m ((c.tc : Thread Reference4Ideal.nD Reference4Ideal.τ).loc Reference4Ideal.main_arg3))))
        (m ((c.tc : Thread Reference4Ideal.nD Reference4Ideal.τ).loc Reference4Ideal.main_arg1)) := rfl

theorem reference_keys (m : (ℓ : Loc Reference4Ideal.nD Reference4Ideal.τ Reference4Ideal.sig) → Buf (Elt Ideal) ℓ) (c : Dev Reference4Ideal.nD) :
    Cert.Reference4Ideal.Value.res_main_v82 m c
      = rope (kcols (whole (m ((c.tc : Thread Reference4Ideal.nD Reference4Ideal.τ).loc Reference4Ideal.main_arg0))
          (m ((c.tc : Thread Reference4Ideal.nD Reference4Ideal.τ).loc Reference4Ideal.main_arg2))
          (m ((c.tc : Thread Reference4Ideal.nD Reference4Ideal.τ).loc Reference4Ideal.main_arg3))))
        (m ((c.tc : Thread Reference4Ideal.nD Reference4Ideal.τ).loc Reference4Ideal.main_arg1)) := rfl

theorem algebraic : Cert.algebraic_Kernel4Ideal_Reference4Ideal := by
  pair_intro
  · run_from Cert.Kernel4Ideal.Value.run_blocks m g
  · run_from Cert.Reference4Ideal.Value.run m' g'
    · show Cert.Reference4Ideal.Value.res_main_v81 m' c = _
      rw [reference_queries, (hagree c).1, (hagree c).2.1, (hagree c).2.2.1, (hagree c).2.2.2]
      exact (final9 m c).symm
    · show Cert.Reference4Ideal.Value.res_main_v82 m' c = _
      rw [reference_keys, (hagree c).1, (hagree c).2.1, (hagree c).2.2.1, (hagree c).2.2.2]
      exact (final10 m c).symm
    · exact (final11 m c).symm
    · exact (final12 m c).symm
    · exact (final13 m c).symm

end Cert.InprojOne
-- ==== Proof.OutprojZeroRef.lean ====
module

public import proofs.«01_k».proof.Proof.OutprojRef
public import proofs.«01_k».proof.Proof.Gen.Reference5Ideal.Run

/-! The reference of the first output projection, cut into named stages. The memory attention and the gate are the last projection's. -/

@[expose] public section

set_option maxRecDepth 16384

noncomputable section

namespace Cert.OutprojZero

open Idealize.ShloMosaic Idealize.ShloMosaic.TcCoe Idealize.SL.Sem
open Cert.Reference5Ideal Cert.Reference5Ideal.Gen

/-- A row of 768 as twelve heads of 64. -/
def heads (mix : FVec Ideal S8x4096x768 .bf16) : FVec Ideal S8x4096x12x64 .f32 :=
  shapeCast _ (extf .f32 mix bitsLt_bf16_f32) shapeCasts_S8x4096x768_S8x4096x12x64

/-- The root-mean-square normalisation of every head, scaled by `o`. -/
def unit (x : FVec Ideal S8x4096x12x64 .f32) (o : FVec Ideal S64 .f32) : FVec Ideal S8x4096x12x64 .f32 :=
  mulf (mulf x (broadcastInDim S8x4096x12x64 ![0, 1, 2, 3] bcast_S8x4096x12x1_S8x4096x12x64_0_1_2_3
    (Host.rsqrt (addf (Host.divf (broadcastInDim S8x4096x12x1 ![0, 1, 2] bcast_S8x4096x12_S8x4096x12x1_0_1_2
        (Host.reduceAdd (mulf x x) (constant S_ .f32 0x00000000#32) reducesTo_S8x4096x12x64_S8x4096x12_d3 h_S_))
      (broadcastInDim S8x4096x12x1 ![] bcast_S_S8x4096x12x1 (constant S_ .f32 0x42800000#32)))
      (broadcastInDim S8x4096x12x1 ![] bcast_S_S8x4096x12x1 (constant S_ .f32 0x358637BD#32))))))
    (broadcastInDim S8x4096x12x64 ![0, 1, 2, 3] bcast_S1x1x1x64_S8x4096x12x64_0_1_2_3 (broadcastInDim S1x1x1x64 ![3] bcast_S64_S1x1x1x64_3 o))

/-- The heads side by side again. -/
def flat (x : FVec Ideal S8x4096x12x64 .f32) : FVec Ideal S8x4096x768 .f32 :=
  shapeCast _ x shapeCasts_S8x4096x12x64_S8x4096x768

/-- The residual stream plus the projection of the gated mixer and memory outputs. -/
def resid (x : FVec Ideal S8x4096x768 .f32) (mo : FVec Ideal S8x4096x256 .f32) (g h : FVec Ideal S8x4096x1024 .f32)
    (w : FVec Ideal S1024x1024 .f32) : FVec Ideal S8x4096x1024 .f32 :=
  addf h (Host.dotGeneral dot_S8x4096x1024_S1024x1024_S8x4096x1024_2_0_01_1_n_n none
    (mulf (concatenate S8x4096x1024 2 [⟨S8x4096x768, x⟩, ⟨S8x4096x256, mo⟩] concatenates_S8x4096x768_S8x4096x256_S8x4096x1024_d2) g) w)

/-- The whole reference. -/
def whole (mix : FVec Ideal S8x4096x768 .bf16) (z : FVec Ideal S8x4096x1024 .bf16) (mq : FVec Ideal S8x4096x256 .bf16)
    (mkv : FVec Ideal S8x256x512 .bf16) (h : FVec Ideal S8x4096x1024 .f32) (w : FVec Ideal S1024x1024 .f32)
    (o : FVec Ideal S64 .f32) : FVec Ideal S8x4096x1024 .f32 :=
  resid (flat (unit (heads mix) o)) (Outproj.memo mkv (Outproj.probs (Outproj.weight (Outproj.logits mq mkv)))) (Outproj.gate z) h w

set_option maxHeartbeats 1000000 in
/-- The reference's result is the composition of the stages. -/
theorem whole_eq (m : (ℓ : Loc nD τ sig) → Buf (Elt Ideal) ℓ) (c : Dev nD) :
    Value.res_out0 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

theorem heads_at (mix : FVec Ideal S8x4096x768 .bf16) (b : Fin 8) (s : Fin 4096) (h : Fin 12) (d : Fin 64) :
    heads mix (ix4 b s h d) = mix (ix3 b s ⟨h * 64 + d, by omega⟩) := by
  pointwise [heads]

theorem unit_at (x : FVec Ideal S8x4096x12x64 .f32) (o : FVec Ideal S64 .f32) (b : Fin 8) (s : Fin 4096) (h : Fin 12) (d : Fin 64) :
    unit x o (ix4 b s h d) = x (ix4 b s h d)
      * Ideal.rsqrt (Ideal.div (∑ k, x (ix4 b s h k) * x (ix4 b s h k)) (Ideal.ofBits .f32 0x42800000#32) + Ideal.ofBits .f32 0x358637BD#32)
      * o (ix1 d) := by
  pointwise [unit]

theorem flat_at (x : FVec Ideal S8x4096x12x64 .f32) (b : Fin 8) (s : Fin 4096) (n : Fin 768) :
    flat x (ix3 b s n) = x (ix4 b s ⟨n / 64, by omega⟩ ⟨n % 64, by omega⟩) := by
  pointwise [flat]

theorem resid_at (x : FVec Ideal S8x4096x768 .f32) (mo : FVec Ideal S8x4096x256 .f32) (g h : FVec Ideal S8x4096x1024 .f32)
    (w : FVec Ideal S1024x1024 .f32) (b : Fin 8) (s : Fin 4096) (n : Fin 1024) :
    resid x mo g h w (ix3 b s n) = h (ix3 b s n)
      + (∑ k : Fin 768, x (ix3 b s k) * g (ix3 b s ⟨k, by omega⟩) * w (ix2 ⟨k, by omega⟩ n)
        + ∑ k : Fin 256, mo (ix3 b s k) * g (ix3 b s ⟨768 + k, by omega⟩) * w (ix2 ⟨768 + k, by omega⟩ n)) := by
  pointwise [resid]

end Cert.OutprojZero
-- ==== Proof.OutprojZeroKernel.lean ====
module

public import proofs.«01_k».proof.Proof.Gen.Kernel5Ideal.Value
public import proofs.«01_k».proof.Proof.OutprojKernel

/-! What one grid step of the first output projection computes, element by element. -/

@[expose] public section

set_option maxRecDepth 16384

noncomputable section

namespace Cert.OutprojZero

open Idealize.ShloMosaic Idealize.ShloMosaic.TcCoe Idealize.SL.Sem
open Cert.Kernel5Ideal Cert.Kernel5Ideal.Gen

/-! The memory attention and the gate are those of the last projection. -/

theorem pay5_eq : k0_pay5 (F := Ideal) = Outproj.lanes 0#32 := rfl
theorem pay6_eq : k0_pay6 (F := Ideal) = Outproj.lanes 1#32 := rfl
theorem pay7_eq : k0_pay7 (F := Ideal) = Outproj.lanes 2#32 := rfl
theorem pay8_eq : k0_pay8 (F := Ideal) = Outproj.lanes 3#32 := rfl
theorem pay2_eq (q : FVec Ideal S1x512x256 .bf16) : k0_pay2 q = Kernel2Ideal.Gen.k0_pay2 (F := Ideal) q := rfl
theorem pay3_eq (k : FVec Ideal S1x256x256 .bf16) : k0_pay3 k = Kernel2Ideal.Gen.k0_pay3 (F := Ideal) k := rfl
theorem pay4_eq (v : FVec Ideal S1x256x256 .bf16) : k0_pay4 v = Kernel2Ideal.Gen.k0_pay4 (F := Ideal) v := rfl
theorem pay10_eq (q : FVec Ideal S1x512x256 .bf16) (k : FVec Ideal S256x256 .bf16) :
    k0_pay10 k (k0_pay9 q) (constant S512x256 .f32 0x00000000#32)
      = Kernel2Ideal.Gen.k0_pay10 (F := Ideal) (Outproj.scores (k0_pay2 q) k (Outproj.lanes 0#32)) := rfl
theorem pay11_eq (q : FVec Ideal S512x256 .f32) (k : FVec Ideal S256x256 .bf16) (msk : FVec Ideal S1x256 .f32) :
    k0_pay11 q k msk = Kernel2Ideal.Gen.k0_pay10 (F := Ideal) (Outproj.scores q k msk) := rfl
theorem pay12_eq (q : FVec Ideal S512x256 .f32) (k : FVec Ideal S256x256 .bf16) (msk : FVec Ideal S1x256 .f32) :
    k0_pay12 q k msk = Kernel2Ideal.Gen.k0_pay10 (F := Ideal) (Outproj.scores q k msk) := rfl
theorem pay13_eq (q : FVec Ideal S512x256 .f32) (k : FVec Ideal S256x256 .bf16) (msk : FVec Ideal S1x256 .f32) :
    k0_pay13 q k msk = Kernel2Ideal.Gen.k0_pay10 (F := Ideal) (Outproj.scores q k msk) := rfl
theorem pay14_eq (q : FVec Ideal S1x512x256 .bf16) (k : FVec Ideal S256x256 .bf16) :
    k0_pay14 k (k0_pay9 q) (constant S512x256 .f32 0x00000000#32)
      = Outproj.recip (Kernel2Ideal.Gen.k0_pay10 (F := Ideal) (Outproj.scores (k0_pay2 q) k (Outproj.lanes 0#32))) := rfl
theorem pay17_eq (v : FVec Ideal S256x256 .bf16) (m0 m1 m2 m3 : FVec Ideal S1x256 .f32) (e0 e1 e2 e3 : FVec Ideal S512x256 .f32)
    (i0 s1 o1 : FVec Ideal S512x1 .f32) :
    k0_pay17 v m0 m1 m2 m3 e0 e1 e2 e3 i0 s1 o1
      = Kernel2Ideal.Gen.k0_pay16 (F := Ideal) v m0 m1 m2 m3 e0 e1 e2 e3 i0 (divf o1 s1) := rfl
theorem pay15_eq (q : FVec Ideal S512x256 .f32) (k : FVec Ideal S256x256 .bf16) (msk : FVec Ideal S1x256 .f32) :
    divf (k0_pay16 (F := Ideal)) (k0_pay15 q k msk) = Outproj.recip (Kernel2Ideal.Gen.k0_pay10 (F := Ideal) (Outproj.scores q k msk)) := rfl
theorem gate_same (z : FVec Ideal S1x512x1024 .bf16) :
    k0_pay20 (k0_pay18 z) (k0_pay19 z) = Kernel2Ideal.Gen.k0_pay17 (F := Ideal) z := rfl

/-! The norm of every head. -/

/-- The indicator that two lanes of a slab belong to the same head. -/
def same : FVec Ideal S256x256 .bf16 :=
  truncf .bf16 (sitofp .f32 (extui 32 (cmpi .eq (shrsi (iota .tc S256x256 32 [0] iota_S256x256_d0_w32) (broadcast S256x256 6#32))
    (shrsi (iota .tc S256x256 32 [1] iota_S256x256_d1_w32) (broadcast S256x256 6#32))) natLt_1_32)) bitsLt_bf16_f32

/-- A slab of four heads, each divided by its root mean square. -/
def slab (f : FVec Ideal S512x256 .f32) : FVec Ideal S512x256 .f32 :=
  mulf f (rsqrt (addf (mulf (matmul dot_S512x256_S256x256_S512x256_1_0_0_1_n_n none (truncf .bf16 (mulf f f) bitsLt_bf16_f32) same
      (constant S512x256 .f32 0x00000000#32)) (broadcast S512x256 (Scalar.ofBits (F := Ideal) .f32 0x3C800000#32)))
    (broadcast S512x256 (Scalar.ofBits (F := Ideal) .f32 0x358637BD#32))))

/-- The mixer's rows of a tile. -/
def rows (x : FVec Ideal S1x512x768 .bf16) : FVec Ideal S512x768 .f32 :=
  extf .f32 (shapeCast S512x768 x shapeCasts_S1x512x768_S512x768) bitsLt_bf16_f32

def slab0 (x : FVec Ideal S512x768 .f32) : FVec Ideal S512x256 .f32 := extractStridedSlice S512x256 ![0, 0] x slices_S512x768_o0_0_S512x256
def slab1 (x : FVec Ideal S512x768 .f32) : FVec Ideal S512x256 .f32 := extractStridedSlice S512x256 ![0, 256] x slices_S512x768_o0_256_S512x256
def slab2 (x : FVec Ideal S512x768 .f32) : FVec Ideal S512x256 .f32 := extractStridedSlice S512x256 ![0, 512] x slices_S512x768_o0_512_S512x256

/-- Three slabs side by side. -/
def beside (a b c : FVec Ideal S512x256 .f32) : FVec Ideal S512x768 .f32 :=
  concatenate S512x768 1 [⟨S512x256, a⟩, ⟨S512x256, b⟩, ⟨S512x256, c⟩] concatenates_S512x256_S512x256_S512x256_S512x768_d1

theorem pay21_eq (x : FVec Ideal S1x512x768 .bf16) :
    k0_pay21 (F := Ideal) (iota .tc S256x256 32 [0] iota_S256x256_d0_w32) (iota .tc S256x256 32 [1] iota_S256x256_d1_w32) x
      = beside (slab (slab0 (rows x))) (slab (slab1 (rows x))) (slab (slab2 (rows x))) := rfl

/-- The number of a lane's head, as a word. -/
theorem head_word : ∀ l : Fin 256, IntOp.shrsi ArithUnit.vector (BitVec.ofNat 32 l) 6#32 = BitVec.ofNat 32 (l / 64) := by decide +kernel

theorem same_word : ∀ a b : Fin 4, BitVec.setWidth 32 (IntOp.cmpi .eq (BitVec.ofNat 32 a) (BitVec.ofNat 32 b))
    = if a.val = b.val then 1#32 else 0#32 := by decide +kernel

theorem same_at (i j : Fin 256) : same (ix2 i j) = if i.val / 64 = j.val / 64 then 1 else 0 := by
  have e : same (ix2 i j) = FloatOps.sitofp (F := Ideal) FTy.f32
      (BitVec.setWidth 32 (IntOp.cmpi .eq (IntOp.shrsi ArithUnit.vector (BitVec.ofNat 32 i) 6#32)
        (IntOp.shrsi ArithUnit.vector (BitVec.ofNat 32 j) 6#32))) := by
    pointwise [same]
  have w := same_word ⟨i / 64, by omega⟩ ⟨j / 64, by omega⟩
  simp only at w
  rw [e, head_word, head_word, w]
  split
  · exact (congrArg (fun i : ℤ => ((i : ℝ) : EReal)) (by decide : (1#32).toInt = 1)).trans (by simp)
  · exact (congrArg (fun i : ℤ => ((i : ℝ) : EReal)) (by decide : (0#32).toInt = 0)).trans (by simp)

theorem slab_of (f : FVec Ideal S512x256 .f32) (r : Fin 512) (n : Fin 256) :
    slab f (ix2 r n) = f (ix2 r n) * Ideal.rsqrt ((∑ l : Fin 256, f (ix2 r l) * f (ix2 r l) * same (ix2 l n)) * Ideal.ofBits .f32 0x3C800000#32
      + Ideal.ofBits .f32 0x358637BD#32) := by
  pointwise [slab]

theorem rows_at (x : FVec Ideal S1x512x768 .bf16) (r : Fin 512) (n : Fin 768) : rows x (ix2 r n) = x (ix3 0 r n) := by
  pointwise [rows]

theorem slab0_at (x : FVec Ideal S512x768 .f32) (r : Fin 512) (n : Fin 256) : slab0 x (ix2 r n) = x (ix2 r ⟨n, by omega⟩) := by
  pointwise [slab0]
theorem slab1_at (x : FVec Ideal S512x768 .f32) (r : Fin 512) (n : Fin 256) : slab1 x (ix2 r n) = x (ix2 r ⟨256 + n, by omega⟩) := by
  pointwise [slab1]
theorem slab2_at (x : FVec Ideal S512x768 .f32) (r : Fin 512) (n : Fin 256) : slab2 x (ix2 r n) = x (ix2 r ⟨512 + n, by omega⟩) := by
  pointwise [slab2]

theorem beside_at (a b c : FVec Ideal S512x256 .f32) (r : Fin 512) (n : Fin 768) : beside a b c (ix2 r n)
    = if h : n.val < 256 then a (ix2 r ⟨n, h⟩) else if h : n.val - 256 < 256 then b (ix2 r ⟨n - 256, h⟩)
      else c (ix2 r ⟨n - 256 - 256, by omega⟩) := by
  pointwise [beside]

theorem sixtyfourth : Ideal.ofBits .f32 0x3C800000#32 = ((1 / 64 : ℝ) : EReal) := by
  simp [Ideal.ofBits, Ideal.ieee, -EReal.coe_mul]; norm_num

theorem sixtyfour : Ideal.ofBits .f32 0x42800000#32 = ((64 : ℝ) : EReal) := by
  simp [Ideal.ofBits, Ideal.ieee, -EReal.coe_mul]; norm_num

/-- The scale of a head: the reciprocal of its root mean square. -/
def scale (f : Fin 64 → EReal) : EReal :=
  Ideal.rsqrt (Ideal.div (∑ d, f d * f d) (Ideal.ofBits .f32 0x42800000#32) + Ideal.ofBits .f32 0x358637BD#32)

/-- A slab's lane is scaled by its own head's scale. -/
theorem slab_at (f : FVec Ideal S512x256 .f32) (r : Fin 512) (n : Fin 256) :
    slab f (ix2 r n) = f (ix2 r n) * scale fun d => f (ix2 r ⟨n / 64 * 64 + d, by omega⟩) := by
  rw [slab_of, scale, sixtyfour, Ideal.div_coe (by norm_num), sixtyfourth]
  rw [Outproj.sum_head ⟨n / 64, by omega⟩ (fun l => f (ix2 r l) * f (ix2 r l) * same (ix2 l n))]
  · refine congrArg (fun s => _ * Ideal.rsqrt (s * _ + _)) (Finset.sum_congr rfl fun d _ => ?_)
    rw [same_at, if_pos (by simp only [Fin.val_mk]; omega), mul_one]
  · intro l hl
    simp only at hl
    simp only [same_at]
    rw [if_neg hl, mul_zero]

/-- The normalised rows of a tile: every element times its head's scale. -/
theorem norm_tile (x : FVec Ideal S1x512x768 .bf16) (r : Fin 512) (n : Fin 768) :
    k0_pay21 (F := Ideal) (iota .tc S256x256 32 [0] iota_S256x256_d0_w32) (iota .tc S256x256 32 [1] iota_S256x256_d1_w32) x (ix2 r n)
      = x (ix3 0 r n) * scale fun d => x (ix3 0 r ⟨n / 64 * 64 + d, by omega⟩) := by
  have key : ∀ (o : ℕ) (s : FVec Ideal S512x256 .f32) (i : Fin 256) (ho : o % 64 = 0) (hi : o + i.val = n.val) (hb : o + 256 ≤ 768),
      (∀ j : Fin 256, s (ix2 r j) = x (ix3 0 r ⟨o + j, by omega⟩)) →
      slab s (ix2 r i) = x (ix3 0 r n) * scale fun d => x (ix3 0 r ⟨n / 64 * 64 + d, by omega⟩) := by
    intro o s i ho hi hb hs
    rw [slab_at]
    simp only [hs]
    refine congrArg₂ (· * ·) (congrArg (fun k => x (ix3 0 r k)) (Fin.ext hi)) (congrArg scale (funext fun d => ?_))
    refine congrArg (fun k => x (ix3 0 r k)) (Fin.ext ?_)
    simp only
    omega
  rw [pay21_eq, beside_at]
  by_cases h : n.val < 256
  · rw [dif_pos h]
    exact key 0 _ ⟨n, h⟩ rfl (Nat.zero_add _) (by omega) fun j => by rw [slab0_at, rows_at]; simp only [Nat.zero_add]
  · rw [dif_neg h]
    by_cases h' : n.val - 256 < 256
    · rw [dif_pos h']
      exact key 256 _ ⟨n - 256, h'⟩ rfl (by simp only; omega) (by omega) fun j => by rw [slab1_at, rows_at]
    · rw [dif_neg h']
      exact key 512 _ ⟨n - 256 - 256, by omega⟩ rfl (by simp only; omega) (by omega) fun j => by rw [slab2_at, rows_at]

/-- The residual row of a tile. -/
def row (mo : FVec Ideal S512x256 .f32) (g : FVec Ideal S512x1024 .f32) (x : FVec Ideal S512x768 .f32) (o : FVec Ideal S1x768 .f32)
    (h : FVec Ideal S1x512x1024 .f32) (wa : FVec Ideal S768x1024 .bf16) (wb : FVec Ideal S256x1024 .bf16) (r : Fin 512) (n : Fin 1024) : EReal :=
  h (ix3 0 r n) + ∑ k : Fin 768, x (ix2 r k) * o (ix2 0 k) * g (ix2 r ⟨k, by omega⟩) * wa (ix2 k n)
    + ∑ k : Fin 256, mo (ix2 r k) * g (ix2 r ⟨768 + k, by omega⟩) * wb (ix2 k n)

theorem out_of (mo : FVec Ideal S512x256 .f32) (g : FVec Ideal S512x1024 .f32) (x : FVec Ideal S512x768 .f32) (o : FVec Ideal S1x768 .f32)
    (h : FVec Ideal S1x512x1024 .f32) (wa : FVec Ideal S768x1024 .bf16) (wb : FVec Ideal S256x1024 .bf16) (r : Fin 512) (n : Fin 1024) :
    k0_pay1 (F := Ideal) mo g x o h wa wb (ix3 0 r n) = row mo g x o h wa wb r n := by
  pointwise [k0_pay1, row]

end Cert.OutprojZero
-- ==== Proof.OutprojZeroValue.lean ====
module

public import proofs.«01_k».proof.Proof.OutprojValue
public import proofs.«01_k».proof.Proof.OutprojZeroRef
public import proofs.«01_k».proof.Proof.OutprojZeroKernel

/-! The first output projection's kernel computes its reference. -/

@[expose] public section

set_option maxRecDepth 16384

noncomputable section

namespace Cert.OutprojZero

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ)

/-- The block of each window at a grid step: batch entry `t / 8`, rows `512 (t % 8)` on. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, 0, 0] ∧ win0_4.index t = ![t.val / 8, t.val % 8, 0]
    ∧ win0_5.index t = ![0, 0] ∧ win0_6.index t = ![0, 0] ∧ win0_7.index t = ![0, 0]
    ∧ win0_9.index t = ![t.val / 8, t.val % 8, 0] := (by decide +kernel : ∀ t : Fin grid0.N, _)

/-- A tile's memory attention is the reference's. -/
theorem memo_eq {mq : FVec Ideal Cert.Reference2Ideal.S8x4096x256 .bf16} {mkv : FVec Ideal Cert.Reference2Ideal.S8x256x512 .bf16}
    (hf : Outproj.Finite mq mkv) (q : FVec Ideal S1x512x256 .bf16) (k v : FVec Ideal S1x256x256 .bf16) (b : Fin 8) (s : Fin 4096) (r : Fin 512)
    (hq : ∀ l : Fin 256, q (ix3 0 r l) = mq (ix3 b s l)) (hk : ∀ n l : Fin 256, k (ix3 0 n l) = mkv (ix3 b n ⟨l, by omega⟩))
    (hv : ∀ n l : Fin 256, v (ix3 0 n l) = mkv (ix3 b n ⟨256 + l, by omega⟩)) (l : Fin 256) :
    k0_pay17 (F := Ideal) (k0_pay4 (F := Ideal) v) (k0_pay5 (F := Ideal)) (k0_pay6 (F := Ideal)) (k0_pay7 (F := Ideal)) (k0_pay8 (F := Ideal))
        (k0_pay10 (k0_pay3 (F := Ideal) k) (k0_pay9 (F := Ideal) q) (constant S512x256 .f32 0x00000000#32))
        (k0_pay11 (k0_pay2 (F := Ideal) q) (k0_pay3 (F := Ideal) k) (k0_pay6 (F := Ideal)))
        (k0_pay12 (k0_pay2 (F := Ideal) q) (k0_pay3 (F := Ideal) k) (k0_pay7 (F := Ideal)))
        (k0_pay13 (k0_pay2 (F := Ideal) q) (k0_pay3 (F := Ideal) k) (k0_pay8 (F := Ideal)))
        (k0_pay14 (k0_pay3 (F := Ideal) k) (k0_pay9 (F := Ideal) q) (constant S512x256 .f32 0x00000000#32))
        (k0_pay15 (k0_pay2 (F := Ideal) q) (k0_pay3 (F := Ideal) k) (k0_pay6 (F := Ideal))) (k0_pay16 (F := Ideal)) (ix2 r l)
      = Outproj.memo mkv (Outproj.probs (Outproj.weight (Outproj.logits mq mkv))) (ix3 b s l) := by
  rw [pay17_eq, pay10_eq, pay14_eq, pay15_eq, pay11_eq, pay12_eq, pay13_eq, pay5_eq, pay6_eq, pay7_eq, pay8_eq, pay2_eq, pay3_eq, pay4_eq]
  exact Outproj.memo_eq hf q k v b s r hq hk hv l

/-- A tile's residual row is the reference's. -/
theorem row_eq (mix : FVec Ideal Cert.Reference5Ideal.S8x4096x768 .bf16) (mo : FVec Ideal Cert.Reference5Ideal.S8x4096x256 .f32)
    (g h : FVec Ideal Cert.Reference5Ideal.S8x4096x1024 .f32) (w : FVec Ideal Cert.Reference5Ideal.S1024x1024 .f32)
    (o : FVec Ideal Cert.Reference5Ideal.S64 .f32)
    (mo' : FVec Ideal S512x256 .f32) (g' : FVec Ideal S512x1024 .f32) (x : FVec Ideal S512x768 .f32) (o' : FVec Ideal S1x768 .f32)
    (h' : FVec Ideal S1x512x1024 .f32) (wa : FVec Ideal S768x1024 .bf16) (wb : FVec Ideal S256x1024 .bf16)
    (b : Fin 8) (s : Fin 4096) (r : Fin 512)
    (hmo : ∀ l, mo' (ix2 r l) = mo (ix3 b s l)) (hg : ∀ n, g' (ix2 r n) = g (ix3 b s n))
    (hx : ∀ n : Fin 768, x (ix2 r n) = mix (ix3 b s n) * scale fun d => mix (ix3 b s ⟨n / 64 * 64 + d, by omega⟩))
    (ho : ∀ n : Fin 768, o' (ix2 0 n) = o (ix1 ⟨n % 64, by omega⟩))
    (hh : ∀ n, h' (ix3 0 r n) = h (ix3 b s n)) (ha : ∀ (x : Fin 768) n, wa (ix2 x n) = w (ix2 ⟨x, by omega⟩ n))
    (hb : ∀ (x : Fin 256) n, wb (ix2 x n) = w (ix2 ⟨768 + x, by omega⟩ n)) (n : Fin 1024) :
    row mo' g' x o' h' wa wb r n = resid (flat (unit (heads mix) o)) mo g h w (ix3 b s n) := by
  rw [resid_at, ← add_assoc, row]
  have e : ∀ k : Fin 768, mix (ix3 b s ⟨(⟨k / 64, by omega⟩ : Fin 12) * 64 + (⟨k % 64, by omega⟩ : Fin 64), by simp only; omega⟩) = mix (ix3 b s k) :=
    fun k => congrArg (fun j => mix (ix3 b s j)) (Fin.ext (by simp only; omega))
  simp only [hmo, hg, hx, ho, hh, ha, hb, flat_at, unit_at, heads_at, e]
  rfl

section Blocks

variable (c : Dev nD) (t : Fin cfg0.N) (r : Fin 512)

/-- The batch entry of a grid step. -/
def bat (t : Fin cfg0.N) : Fin 8 := ⟨t.val / 8, by have : t.val < 64 := t.isLt; omega⟩

/-- The token of a row of a grid step. -/
def tok (t : Fin cfg0.N) (r : Fin 512) : Fin 4096 := ⟨t.val % 8 * 512 + r, by omega⟩

theorem blk0 (n : Fin 768) : iblk m c 0 t (ix3 0 r n) = m ((c : Thread nD τ).loc main_arg0) (ix3 (bat t) (tok t r) n) := by
  blk_point [iblk, V, idx t, bat, tok]

theorem blk1 (n : Fin 1024) : iblk m c 1 t (ix3 0 r n) = m ((c : Thread nD τ).loc main_arg1) (ix3 (bat t) (tok t r) n) := by
  blk_point [iblk, V, idx t, bat, tok]

theorem blk2 (n : Fin 256) : View.ld (iblk m c 2 t) r0_0 (ix3 0 r n) = m ((c : Thread nD τ).loc main_arg2) (ix3 (bat t) (tok t r) n) := by
  blk_point [iblk, V, idx t, bat, tok]

theorem blk3 (n l : Fin 256) : View.ld (iblk m c 3 t) r0_1 (ix3 0 n l) = m ((c : Thread nD τ).loc main_arg3) (ix3 (bat t) n ⟨l, by omega⟩) := by
  blk_point [iblk, V, idx t, bat, tok]

theorem blk3' (n l : Fin 256) :
    View.ld (iblk m c 3 t) r0_2 (ix3 0 n l) = m ((c : Thread nD τ).loc main_arg3) (ix3 (bat t) n ⟨256 + l, by omega⟩) := by
  blk_point [iblk, V, idx t, bat, tok]

theorem blk4 (n : Fin 1024) : iblk m c 4 t (ix3 0 r n) = m ((c : Thread nD τ).loc main_arg4) (ix3 (bat t) (tok t r) n) := by
  blk_point [iblk, V, idx t, bat, tok]

theorem blk5 (x : Fin 768) (n : Fin 1024) :
    iblk m c 5 t (ix2 x n) = m ((c : Thread nD τ).loc main_arg5) (ix2 ⟨x, by omega⟩ n) := by
  blk_simp [iblk, idx t]; entry_read; pointwise; blk_ext [idx t]

theorem blk6 (x : Fin 256) (n : Fin 1024) :
    iblk m c 6 t (ix2 x n) = m ((c : Thread nD τ).loc main_arg5) (ix2 ⟨768 + x, by omega⟩ n) := by
  blk_simp [iblk, idx t]; entry_read; pointwise; blk_ext [idx t]

theorem blk7 (n : Fin 768) : iblk m c 7 t (ix2 0 n) = m ((c : Thread nD τ).loc main_arg6) (ix1 ⟨n % 64, by omega⟩) := by
  blk_simp [iblk, idx t]; entry_read; pointwise; blk_ext [idx t]

end Blocks

/-- What the kernel leaves in its result array: the reference of the arguments. -/
theorem final (c : Dev nD) (hf : Outproj.Finite (m ((c : Thread nD τ).loc main_arg2)) (m ((c : Thread nD τ).loc main_arg3))) :
    (dats m 0 c).arrAt 9 cfg0.N = whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  refine (dats m 0 c).arrAt_eq_of_covers 9 _ (by decide +kernel) fun t _ y => ?_
  blk_simp
  rw [after0_9]
  frame_out
  idx_vars y
  obtain rfl : y0 = 0 := Subsingleton.elim _ _
  have hy : ((View.whole main_v8).slice (win0_9.rect t)).emb (ix3 0 y1 y2) = ix3 (bat t) (tok t y1) y2 := by
    blk_ext [idx t, bat, tok]
  rw [hy]
  refine (out_of _ _ _ _ _ _ _ y1 y2).trans ?_
  exact row_eq (m ((c : Thread nD τ).loc main_arg0))
    (Outproj.memo (m ((c : Thread nD τ).loc main_arg3)) (Outproj.probs (Outproj.weight (Outproj.logits (m ((c : Thread nD τ).loc main_arg2)) (m ((c : Thread nD τ).loc main_arg3))))))
    (Outproj.gate (m ((c : Thread nD τ).loc main_arg1))) (m ((c : Thread nD τ).loc main_arg4)) (m ((c : Thread nD τ).loc main_arg5))
    (m ((c : Thread nD τ).loc main_arg6)) _ _ _ _ _ _ _
    (bat t) (tok t y1) y1 (memo_eq hf _ _ _ (bat t) (tok t y1) y1 (blk2 m c t y1) (blk3 m c t) (blk3' m c t))
    (fun n => Outproj.gate_eq _ _ (bat t) (tok t y1) y1 n (blk1 m c t y1 n))
    (fun n => (norm_tile _ y1 n).trans (by simp only [blk0])) (blk7 m c t) (blk4 m c t y1) (blk5 m c t) (blk6 m c t) y2

end Cert.OutprojZero
-- ==== Proof.OutprojZeroClaim.lean ====
module

public import proofs.«01_k».proof.Defs
public import proofs.«01_k».proof.Proof.OutprojClaim
public import proofs.«01_k».proof.Proof.OutprojZeroValue
public import proofs.«01_k».proof.Proof.Gen.Kernel5
public import proofs.«01_k».proof.Proof.Gen.Kernel5.Frame
public import proofs.«01_k».proof.Proof.Gen.Pre_finite_queries_and_keys5
public import Idealize.ShloMosaic.Lib.Claim
public import Idealize.ShloMosaic.Lib.ReduceAll
public import Idealize.ShloMosaic.Lib.Affine

/-! The claims about the first output projection. -/

@[expose] public section

set_option maxRecDepth 16384

noncomputable section

namespace Cert.OutprojZero

open Idealize.ShloMosaic Idealize.SL.Sem

/-- What the precondition says of the arrays. -/
theorem finite_of_pre (m : (ℓ : Loc Kernel5Ideal.nD Kernel5Ideal.τ Kernel5Ideal.sig) → Buf (Elt Ideal) ℓ)
    (h : Cert.Pre_Kernel5Ideal_finite_queries_and_keys5 m) (c : Dev Kernel5Ideal.nD) :
    Outproj.Finite (m ((c.tc : Thread Kernel5Ideal.nD Kernel5Ideal.τ).loc Kernel5Ideal.main_arg2))
      (m ((c.tc : Thread Kernel5Ideal.nD Kernel5Ideal.τ).loc Kernel5Ideal.main_arg3)) := by
  have e := congrFun (h c) ix0
  dsimp only [Cert.Pre_finite_queries_and_keys5.fn] at e
  obtain ⟨hq, hk⟩ := IntOp.andi_eq_one.1 e
  haveI : Subsingleton Cert.Pre_finite_queries_and_keys5.S_.Idx := inferInstanceAs (Subsingleton ((d : Fin 0) → _))
  constructor
  · intro b s l
    have := Host.reduce_andi_all _ _ _ _ _ hq (ix3 b s l)
    refine Outproj.real_of_below ?_
    rw [← Outproj.pos_inf]
    exact this
  · intro b n l
    have := Host.reduce_andi_all _ _ _ _ _ hk (ix3 b n l)
    refine Outproj.real_of_below ?_
    rw [← Outproj.pos_inf]
    have e : extractStridedSlice Cert.Pre_finite_queries_and_keys5.S8x256x256 ![0, 0, 0]
        (m ((c.tc : Thread Kernel5Ideal.nD Kernel5Ideal.τ).loc Kernel5Ideal.main_arg3))
        Cert.Pre_finite_queries_and_keys5.Facts.slices_S8x256x512_S8x256x256_0_0_0 (ix3 b n l)
      = (m ((c.tc : Thread Kernel5Ideal.nD Kernel5Ideal.τ).loc Kernel5Ideal.main_arg3)) (ix3 b n ⟨l, by omega⟩) := by
      pointwise
    rw [← e]
    exact this

theorem frame_kernel : Cert.quiescent_Kernel5 := fun m g _ => Cert.Kernel5.Gen.frame m g
theorem frame_ideal : Cert.quiescent_Kernel5Ideal := fun m g _ => Cert.Kernel5Ideal.Gen.frame m g
theorem frame_ideal_pre : Cert.quiescent_Kernel5Ideal_pre_finite_queries_and_keys5 := fun m g _ => Cert.Kernel5Ideal.Gen.frame m g
theorem frame_reference : Cert.quiescent_Reference5Ideal := fun m g _ =>
  (θ_run Cert.Reference5Ideal.defs _ _).mono (fun r h => ⟨fun c => (h c).2,
      Idealize.ShloMosaic.sem_eq_zero_of_no_sems (by decide) r.2⟩)
    (Cert.Reference5Ideal.Value.run m g)
theorem frame_reference_pre : Cert.quiescent_Reference5Ideal_pre_finite_queries_and_keys5 := fun m g _ => frame_reference m g trivial
theorem preserved : Cert.preserves_Kernel5_Kernel5Ideal := trivial

theorem algebraic : Cert.algebraic_Kernel5Ideal_Reference5Ideal_pre_finite_queries_and_keys5 := by
  pair_intro
  · run_from Cert.Kernel5Ideal.Value.run_blocks m g
  · run_from Cert.Reference5Ideal.Value.run m' g'
    show Cert.Reference5Ideal.Value.res_out0 m' c = _
    rw [whole_eq, (hagree c).1, (hagree c).2.1, (hagree c).2.2.1, (hagree c).2.2.2.1, (hagree c).2.2.2.2.1,
      (hagree c).2.2.2.2.2.1, (hagree c).2.2.2.2.2.2]
    exact (final m c (finite_of_pre m hpre c)).symm

end Cert.OutprojZero
-- ==== Proof.Memkv.lean ====
module

public import proofs.«01_k».proof.Defs
public import proofs.«01_k».proof.Proof.Rms
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import Idealize.ShloMosaic.Lib.Claim
public import Idealize.ShloMosaic.Lib.Pointwise
public import Idealize.ShloMosaic.Lib.Pipeline.ValueKit

/-! The memory's keys and values of both layers: the kernel's two results are the reference's. -/

@[expose] public section

set_option maxRecDepth 16384

noncomputable section

namespace Cert.Memkv

open Idealize.ShloMosaic Idealize.ShloMosaic.TcCoe Idealize.SL.Sem
open Idealize.ShloMosaic.Pipeline (Dat)

section Reference
open Cert.Reference6Ideal Cert.Reference6Ideal.Gen

/-- The normalised rows of the memory. -/
def normed (x : FVec Ideal S8x256x1024 .f32) (g : FVec Ideal S1024 .f32) : FVec Ideal S8x256x1024 .f32 :=
  mulf (mulf x (broadcastInDim S8x256x1024 ![0, 1, 2] bcast_S8x256x1_S8x256x1024_0_1_2
      (Host.rsqrt (addf (Host.divf (broadcastInDim S8x256x1 ![0, 1] bcast_S8x256_S8x256x1_0_1
          (Host.reduceAdd (mulf x x) (constant S_ .f32 0x00000000#32) reducesTo_S8x256x1024_S8x256_d2 h_S_))
        (broadcastInDim S8x256x1 ![] bcast_S_S8x256x1 (constant S_ .f32 0x44800000#32)))
        (broadcastInDim S8x256x1 ![] bcast_S_S8x256x1 (constant S_ .f32 0x358637BD#32))))))
    (broadcastInDim S8x256x1024 ![0, 1, 2] bcast_S1x1x1024_S8x256x1024_0_1_2 (broadcastInDim S1x1x1024 ![2] bcast_S1024_S1x1x1024_2 g))

/-- Their product with a layer's weight. -/
def whole (x : FVec Ideal S8x256x1024 .f32) (g : FVec Ideal S1024 .f32) (w : FVec Ideal S1024x512 .f32) : FVec Ideal S8x256x512 .bf16 :=
  truncf .bf16 (Host.dotGeneral dot_S8x256x1024_S1024x512_S8x256x512_2_0_01_1_n_n none (normed x g) w) bitsLt_bf16_f32

theorem normed_at (x : FVec Ideal S8x256x1024 .f32) (g : FVec Ideal S1024 .f32) (b : Fin 8) (s : Fin 256) (k : Fin 1024) :
    normed x g (ix3 b s k) = x (ix3 b s k) * Rms.scale (fun k => x (ix3 b s k)) * g (ix1 k) := by
  pointwise [normed, Rms.scale]

theorem whole_at (x : FVec Ideal S8x256x1024 .f32) (g : FVec Ideal S1024 .f32) (w : FVec Ideal S1024x512 .f32) (b : Fin 8) (s : Fin 256) (n : Fin 512) :
    whole x g w (ix3 b s n) = Rms.proj (fun k => x (ix3 b s k)) (fun k => g (ix1 k)) (fun k => w (ix2 k n)) := by
  have e : whole x g w (ix3 b s n) = ∑ k : Fin 1024, normed x g (ix3 b s k) * w (ix2 k n) := by
    pointwise [whole]
  simp only [e, normed_at, Rms.proj]

end Reference

section Kernel
open Cert.Kernel6Ideal Cert.Kernel6Ideal.Gen

theorem rows_of (x : FVec Ideal S1x256x1024 .f32) (r : Fin 256) (k : Fin 1024) :
    k0_pay1 (F := Ideal) x (ix2 r k) = x (ix3 0 r k) * Rms.scale (fun k => x (ix3 0 r k)) := by
  pointwise [k0_pay1, Rms.scale]

theorem zero_of (x : FVec Ideal S1x256x1024 .f32) (g : FVec Ideal S1x1024 .f32) (w : FVec Ideal S1024x512 .bf16) (r : Fin 256) (n : Fin 512) :
    k0_pay2 (F := Ideal) x g w (ix3 0 r n) = Rms.proj (fun k => x (ix3 0 r k)) (fun k => g (ix2 0 k)) (fun k => w (ix2 k n)) := by
  have e : k0_pay2 (F := Ideal) x g w (ix3 0 r n) = ∑ k : Fin 1024, k0_pay1 (F := Ideal) x (ix2 r k) * g (ix2 0 k) * w (ix2 k n) := by
    pointwise [k0_pay2]
  simp only [e, rows_of, Rms.proj]

/-- The second layer's payload is the first's on its own gains and weight. -/
theorem one_of (x : FVec Ideal S1x256x1024 .f32) (g : FVec Ideal S1x1024 .f32) (w : FVec Ideal S1024x512 .bf16) :
    k0_pay3 (F := Ideal) x g w = k0_pay2 (F := Ideal) x g w := rfl

variable (m : (ℓ : Loc nD τ sig) → Buf (Elt Ideal) ℓ)

/-- The block of each window at a grid step: batch entry `t`. -/
theorem idx : ∀ t : Fin cfg0.N, win0_0.index t = ![t.val, 0, 0] ∧ win0_1.index t = ![0, 0]
    ∧ win0_2.index t = ![0, 0] ∧ win0_3.index t = ![0, 0] ∧ win0_4.index t = ![0, 0]
    ∧ win0_5.index t = ![t.val, 0, 0] ∧ win0_6.index t = ![t.val, 0, 0] :=
  (by decide +kernel : ∀ t : Fin grid0.N, _)

section Blocks
variable (c : Dev nD) (t : Fin cfg0.N) (r : Fin 256)

/-- The batch entry of a grid step. -/
def bat (t : Fin cfg0.N) : Fin 8 := ⟨t.val, t.isLt⟩

theorem blk0 (n : Fin 1024) : iblk m c 0 t (ix3 0 r n) = m ((c : Thread nD τ).loc main_arg0) (ix3 (bat t) r n) := by
  blk_point [iblk, V, idx t, bat]

theorem blk1 (n : Fin 1024) : iblk m c 1 t (ix2 0 n) = m ((c : Thread nD τ).loc main_arg1) (ix1 n) := by
  blk_simp [iblk, idx t]; entry_read; pointwise; blk_ext [idx t]

theorem blk2 (k : Fin 1024) (n : Fin 512) : iblk m c 2 t (ix2 k n) = m ((c : Thread nD τ).loc main_arg2) (ix2 k n) := by
  blk_simp [iblk, idx t]; entry_read; pointwise; blk_ext [idx t]

theorem blk3 (n : Fin 1024) : iblk m c 3 t (ix2 0 n) = m ((c : Thread nD τ).loc main_arg3) (ix1 n) := by
  blk_simp [iblk, idx t]; entry_read; pointwise; blk_ext [idx t]

theorem blk4 (k : Fin 1024) (n : Fin 512) : iblk m c 4 t (ix2 k n) = m ((c : Thread nD τ).loc main_arg4) (ix2 k n) := by
  blk_simp [iblk, idx t]; entry_read; pointwise; blk_ext [idx t]

end Blocks

/-- The first layer's keys and values. -/
theorem final5 (c : Dev nD) : (dats m 0 c).arrAt 5 cfg0.N
    = whole (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  idx_vars y
  obtain rfl : y0 = 0 := Subsingleton.elim _ _
  have hy : ((View.whole main_v4_0).slice (win0_5.rect t)).emb (ix3 0 y1 y2) = ix3 (bat t) y1 y2 := by
    blk_ext [idx t, bat]
  rw [hy, whole_at]
  refine (zero_of _ _ _ y1 y2).trans ?_
  simp only [blk0, blk1, blk2]

/-- The second layer's keys and values. -/
theorem final6 (c : Dev nD) : (dats m 0 c).arrAt 6 cfg0.N
    = whole (m ((c : Thread nD τ).loc main_arg0)) (m ((c : Thread nD τ).loc main_arg3)) (m ((c : Thread nD τ).loc main_arg4)) := by
  refine (dats m 0 c).arrAt_eq_of_covers 6 _ (by decide +kernel) fun t _ y => ?_
  blk_simp
  rw [after0_6]
  frame_out
  idx_vars y
  obtain rfl : y0 = 0 := Subsingleton.elim _ _
  have hy : ((View.whole main_v4_1).slice (win0_6.rect t)).emb (ix3 0 y1 y2) = ix3 (bat t) y1 y2 := by
    blk_ext [idx t, bat]
  rw [hy, whole_at]
  refine (congrFun (one_of _ _ _) _).trans ((zero_of _ _ _ y1 y2).trans ?_)
  simp only [blk0, blk3, blk4]

end Kernel

theorem frame_kernel : Cert.quiescent_Kernel6 := fun m g _ => Cert.Kernel6.Gen.frame m g
theorem frame_ideal : Cert.quiescent_Kernel6Ideal := fun m g _ => Cert.Kernel6Ideal.Gen.frame m g
theorem frame_reference : Cert.quiescent_Reference6Ideal := fun m g _ =>
  (θ_run Cert.Reference6Ideal.defs _ _).mono (fun r h => ⟨fun c => (h c).2.2,
      Idealize.ShloMosaic.sem_eq_zero_of_no_sems (by decide) r.2⟩)
    (Cert.Reference6Ideal.Value.run m g)
theorem preserved : Cert.preserves_Kernel6_Kernel6Ideal := trivial

theorem algebraic : Cert.algebraic_Kernel6Ideal_Reference6Ideal := by
  pair_intro
  · run_from Cert.Kernel6Ideal.Value.run_blocks m g
  · run_from Cert.Reference6Ideal.Value.run m' g'
    · exact (final5 m c).symm
    · exact (final6 m c).symm

end Cert.Memkv
-- ==== Proof.MobaFrameIdeal.lean ====
module

public import proofs.«01_k».proof.Proof.Gen.KernelIdeal.Skeleton
public import proofs.«01_k».proof.Proof.Gen.KernelIdeal.Loops
public import proofs.«01_k».proof.Proof.Gen.KernelIdeal.Frame

/-! The attention kernel runs to its end and leaves its arguments as they were: the same for the kernel with its mask constant read as minus infinity. -/

@[expose] public section

set_option maxRecDepth 65536

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose RDat)
open Cert.KernelIdeal Cert.KernelIdeal.Gen

variable {F : FTy → Type} [FloatOps F] [Named F]

local notation "𝕄" => MT nD τ sig Unit (Elt F) ℕ (UR sig nD τ) ℕ

/-- A memref's buffer held whole at the contents `f`. -/
abbrev pt (c : Dev nD) {s : Shape} {e : EltTy} (M : Memref sig .tc .vmem s e) (f : BufTy.Contents (Elt F) M.view.ty) : sProp 𝕄 :=
  M.view.loc (c : Thread nD τ) ↦[M.view.set]{fullShare} f

/-- A row of zeros, for two words of the preparing loop's region that the region does not use. -/
abbrev zeros : FVec F S1x128 .f32 := broadcast S1x128 (FloatOps.ofBits .f32 0#32)

/-- The preparing loop's invariant, the two unused words given. -/
@[instance_reducible, sl_loop] def prepare (𝒱 : Variants) (c : Dev nD) (bd : Option 𝒱.V) (E : Set ℕ) (i : grid0.Coords) (arg3 : Memref sig .tc .vmem S1x4096x256 .bf16) (harg3 : arg3.IsWhole) (arg4 : Memref sig .tc .vmem S1x4096x256 .bf16) (harg4 : arg4.IsWhole) (arg5 : Memref sig .tc .vmem S1x4096x256 .bf16) (harg5 : arg5.IsWhole) (arg6 : Memref sig .tc .vmem S1x512x256 .bf16) (harg6 : arg6.IsWhole) (arg7 : Memref sig .tc .vmem S2x4096x256 .bf16) (harg7 : arg7.IsWhole) (arg8 : Memref sig .tc .vmem S4x80x4096 .bf16) (harg8 : arg8.IsWhole) (arg9 : Memref sig .tc .vmem S2x16x128 .f32) (harg9 : arg9.IsWhole) (arg10 : Memref sig .tc .vmem S4x256x4096 .bf16) (harg10 : arg10.IsWhole) (arg11 : Memref sig .tc .vmem S4x512x512 .f32) (harg11 : arg11.IsWhole) (arg12 : Memref sig .tc .vmem S4x512x512 .f32) (harg12 : arg12.IsWhole) (k0_h1 : k0_cond1 i = 1#1) (v198 : IVec S256x128 32) (X_arg4 : BufTy.Contents (Elt F) arg4.view.ty) (X_arg5 : BufTy.Contents (Elt F) arg5.view.ty) (G_arg7 : BufTy.Contents (Elt F) arg7.view.ty) (G_arg8 : BufTy.Contents (Elt F) arg8.view.ty) (G_arg9 : BufTy.Contents (Elt F) arg9.view.ty) :=
  loopInv_k0_t1 (F := F) 𝒱 c bd E i arg3 harg3 arg4 harg4 arg5 harg5 arg6 harg6 arg7 harg7 arg8 harg8 arg9 harg9 arg10 harg10 arg11 harg11 arg12 harg12 zeros zeros k0_h1 v198 X_arg4 X_arg5 G_arg7 G_arg8 G_arg9

set_option maxHeartbeats 4000000 in
/-- The body at any step, whether it prepares the scratch or not and whether an even or an odd number of key
    super-blocks lies behind it: the operands end as they were, the output block and the scratch at some contents. -/
theorem run (c : Dev nD) (i : grid0.Coords) (M3 : Memref sig .tc .vmem S1x4096x256 .bf16) (h3 : M3.IsWhole) (M4 : Memref sig .tc .vmem S1x4096x256 .bf16) (h4 : M4.IsWhole) (M5 : Memref sig .tc .vmem S1x4096x256 .bf16) (h5 : M5.IsWhole) (M6 : Memref sig .tc .vmem S1x512x256 .bf16) (h6 : M6.IsWhole) (M7 : Memref sig .tc .vmem S2x4096x256 .bf16) (h7 : M7.IsWhole) (M8 : Memref sig .tc .vmem S4x80x4096 .bf16) (h8 : M8.IsWhole) (M9 : Memref sig .tc .vmem S2x16x128 .f32) (h9 : M9.IsWhole) (M10 : Memref sig .tc .vmem S4x256x4096 .bf16) (h10 : M10.IsWhole) (M11 : Memref sig .tc .vmem S4x512x512 .f32) (h11 : M11.IsWhole) (M12 : Memref sig .tc .vmem S4x512x512 .f32) (h12 : M12.IsWhole)
    (f3 : BufTy.Contents (Elt F) M3.view.ty) (f4 : BufTy.Contents (Elt F) M4.view.ty) (f5 : BufTy.Contents (Elt F) M5.view.ty) (f6 : BufTy.Contents (Elt F) M6.view.ty) (f7 : BufTy.Contents (Elt F) M7.view.ty) (f8 : BufTy.Contents (Elt F) M8.view.ty) (f9 : BufTy.Contents (Elt F) M9.view.ty) (f10 : BufTy.Contents (Elt F) M10.view.ty) (f11 : BufTy.Contents (Elt F) M11.view.ty) (f12 : BufTy.Contents (Elt F) M12.view.ty) (Q : PUnit → sProp 𝕄) :
    iprop(pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ (iprop(pt c M3 f3 ∗ pt c M4 f4 ∗ pt c M5 f5 ∗ (∃ f, pt (F := F) c M6 f) ∗ (∃ f, pt (F := F) c M7 f) ∗ (∃ f, pt (F := F) c M8 f) ∗ (∃ f, pt (F := F) c M9 f) ∗ (∃ f, pt (F := F) c M10 f) ∗ (∃ f, pt (F := F) c M11 f) ∗ (∃ f, pt (F := F) c M12 f)) -∗ Q ⟨⟩))
    ⊢ wp frame (wpE (defs₀ (F := F)) Variants.none c none) Set.univ (cc0_moba i M3 h3 M4 h4 M5 h5 M6 h6 M7 h7 M8 h8 M9 h9 M10 h10 M11 h11 M12 h12) Q := by
  by_cases hc1 : k0_cond1 i = 1#1 <;> by_cases hc2 : k0_cond2 i = 1#1
  all_goals
    iintro ⟨H3, H4, H5, H6, H7, H8, H9, H10, H11, H12, Hk⟩
    simp only [cc0_moba_eq_skeleton]
    unfold cc0_moba_skel
    sl_exec
    sl_step
    iapply Hk
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

variable (m : (ℓ : Loc nD τ sig) → Buf (Elt F) ℓ) (ρ : Dev nD → PrngReg)

/-- What each window holds after the body: the inputs their blocks, the output left unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed (cfg := cfg0) 3 t
  Φ _ := Pipeline.ΦA spec0 c
  q _ := fullShare
  owed _ := 0

/-- The output window is the one left unnamed. -/
def unnamed : Fin cfg0.W → Bool
  | ⟨3, _⟩ => true
  | _ => false

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The scratch buffers, each whole at some contents. -/
theorem scratch_eq (c : Dev nD) : (Pipeline.scopedRest (Ix := Unit) (Name := ℕ) (U := UR sig nD τ) (Lvl := ℕ) (Val := Elt F) spec0 c : sProp 𝕄)
    = iprop((∃ f, pt (F := F) c (Memref.whole cc0_scratch0) f) ∗ (∃ f, pt (F := F) c (Memref.whole cc0_scratch1) f) ∗ (∃ f, pt (F := F) c (Memref.whole cc0_scratch2) f) ∗ (∃ f, pt (F := F) c (Memref.whole cc0_scratch3) f) ∗ (∃ f, pt (F := F) c (Memref.whole cc0_scratch4) f) ∗ (∃ f, pt (F := F) c (Memref.whole cc0_scratch5) f)) := by
  rw [scopedRest0_eq]
  have e0 : (Memref.whole cc0_scratch0).view.set = Finset.univ := View.set_whole cc0_scratch0
  have e1 : (Memref.whole cc0_scratch1).view.set = Finset.univ := View.set_whole cc0_scratch1
  have e2 : (Memref.whole cc0_scratch2).view.set = Finset.univ := View.set_whole cc0_scratch2
  have e3 : (Memref.whole cc0_scratch3).view.set = Finset.univ := View.set_whole cc0_scratch3
  have e4 : (Memref.whole cc0_scratch4).view.set = Finset.univ := View.set_whole cc0_scratch4
  have e5 : (Memref.whole cc0_scratch5).view.set = Finset.univ := View.set_whole cc0_scratch5
  unfold pt
  rw [e0, e1, e2, e3, e4, e5]

/-- What the body is called with at step `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ X, owns (c : Thread nD τ) (win0_3.stage (cfg0.slots t 3)) fullShare X))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ X, owns (c : Thread nD τ) (win0_3.stage (cfg0.slots t 3)) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after_0, after_1, after_2]
  unfold Pipeline.ΦA owns
  rw [scratch_eq]
  iintro ⟨⟨⟨⟨%s0, S0⟩, ⟨%s1, S1⟩, ⟨%s2, S2⟩, ⟨%s3, S3⟩, ⟨%s4, S4⟩, ⟨%s5, S5⟩⟩, Hr⟩, Ho, ⟨%d0, %f0, %e0, H0⟩, ⟨%d1, %f1, %e1, H1⟩, ⟨%d2, %f2, %e2, H2⟩, ⟨%d3, %f3, %e3, H3⟩⟩
  iapply (run c (grid0.coords t) _ _ _ _ _ _ _ _ _ _ _ _ _ _ _ _ _ _ _ _ f0 f1 f2 f3 s0 s1 s2 s3 s4 s5 _)
  isplitl [H0]; · iexact H0
  isplitl [H1]; · iexact H1
  isplitl [H2]; · iexact H2
  isplitl [H3]; · iexact H3
  isplitl [S0]; · iexact S0
  isplitl [S1]; · iexact S1
  isplitl [S2]; · iexact S2
  isplitl [S3]; · iexact S3
  isplitl [S4]; · iexact S4
  isplitl [S5]; · iexact S5
  iintro ⟨H0, H1, H2, H3, S0, S1, S2, S3, S4, S5⟩
  isplitl [S0 S1 S2 S3 S4 S5 Hr]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hr
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  icases H3 with ⟨%g, H3⟩
  iexists _; iexists g; isplitr; · ipureintro; rfl
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unnamed := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ)
    (fun r => (RDat.FramePost cfg0 (fun c => (dats m 0 c).toRForget unnamed) (V m)) r ∧ r.2.sem = fun _ => 0) :=
  Pipeline.θ_run_frame_forget (Q' := _) cfgs (dats m) (0 : Fin 1) launch0 defs₀ Variants.none unnamed m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the kernel ends, its arguments as they were, every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1.arr_in c 0 rfl).trans (V_main_arg0 m c), (h.1.arr_in c 1 rfl).trans (V_main_arg1 m c),
    (h.1.arr_in c 2 rfl).trans (V_main_arg2 m c)⟩, h.2⟩) (run_main_quiescent m ρ)

end Cert.KernelIdeal.Body

end
-- ==== Proof.DeltaTripIdeal.lean ====
module

public import proofs.«01_k».proof.Proof.Gen.Kernel7Ideal.Skeleton
public import proofs.«01_k».proof.Proof.Gen.Kernel7Ideal.Loops

/-! One trip of the delta mixer's main loop: whatever the output block and the scratch hold, the trip ends and leaves the operands as they were. The idealized call. -/

@[expose] public section

set_option maxRecDepth 65536

noncomputable section

namespace Cert.Kernel7Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose RDat)
open Cert.Kernel7Ideal Cert.Kernel7Ideal.Gen

variable {F : FTy → Type} [FloatOps F]

local notation "𝕄" => MT nD τ sig Unit (Elt F) ℕ (UR sig nD τ) ℕ

/-- A memref's buffer held whole at the contents `f`. -/
abbrev pt (c : Dev nD) {s : Shape} {e : EltTy} (M : Memref sig .tc .vmem s e) (f : BufTy.Contents (Elt F) M.view.ty) : sProp 𝕄 :=
  M.view.loc (c : Thread nD τ) ↦[M.view.set]{fullShare} f

/-- The operands at fixed contents, the output block and the scratch at some contents. -/
abbrev held (c : Dev nD) (arg2 : Memref sig .tc .vmem S1x4096x128 .bf16) (arg3 : Memref sig .tc .vmem S1x4096x128 .bf16) (arg4 : Memref sig .tc .vmem S1x4096x128 .bf16) (arg5 : Memref sig .tc .vmem S1x4096x128 .f32) (arg6 : Memref sig .tc .vmem S4x128 .f32) (arg7 : Memref sig .tc .vmem S4x128 .f32) (arg8 : Memref sig .tc .vmem S4x128 .f32) (arg9 : Memref sig .tc .vmem S1x128 .f32) (arg10 : Memref sig .tc .vmem S1x128 .f32) (arg11 : Memref sig .tc .vmem S1x4096x128 .bf16) (arg12 : Memref sig .tc .vmem S3x1032x128 .f32) (arg13 : Memref sig .tc .vmem S32x128x128 .bf16) (arg14 : Memref sig .tc .vmem S32x128x128 .bf16) (arg15 : Memref sig .tc .vmem S32x128x128 .f32) (arg16 : Memref sig .tc .vmem S32x128x128 .f32) (arg17 : Memref sig .tc .vmem S32x128 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) : sProp 𝕄 :=
  iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ (∃ f, pt (F := F) c arg11 f) ∗ (∃ f, pt (F := F) c arg12 f) ∗ (∃ f, pt (F := F) c arg13 f) ∗ (∃ f, pt (F := F) c arg14 f) ∗ (∃ f, pt (F := F) c arg15 f) ∗ (∃ f, pt (F := F) c arg16 f) ∗ (∃ f, pt (F := F) c arg17 f))

set_option maxHeartbeats 16000000 in
/-- One trip, from any contents of the output block and the scratch and any carried state. -/
theorem trip (c : Dev nD) (E : Set ℕ) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .f32) (harg5 : arg5.IsWhole) (arg6 : Memref sig .tc .vmem S4x128 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x4096x128 .bf16) (harg11 : arg11.IsWhole) (arg12 : Memref sig .tc .vmem S3x1032x128 .f32) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .f32) (harg15 : arg15.IsWhole) (arg16 : Memref sig .tc .vmem S32x128x128 .f32) (harg16 : arg16.IsWhole) (arg17 : Memref sig .tc .vmem S32x128 .f32) (harg17 : arg17.IsWhole) (v6 : FVec F S1x128 .f32) (v12 : FVec F S1x128 .f32) (v13 : IVec S128x128 32) (v14 : IVec S128x128 32) (v15 : IVec S128x128 1) (v16 : IVec S128x128 1) (v19 : FVec F S128x128 .f32) (v22 : FVec F S128x128 .bf16) (v29 : FVec F S128x128 .f32) (v30 : FVec F S128x128 .bf16) (v49 : FVec F S128x256 .bf16) (v52 : IVec S1x128 1) (v57 : FVec F S1x128 .f32) (v59 : FVec F S1x128 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (k : Fin k0_t1_loop.trips) (acc : FVec F S128x128 .f32) :
    held c arg2 arg3 arg4 arg5 arg6 arg7 arg8 arg9 arg10 arg11 arg12 arg13 arg14 arg15 arg16 arg17 X2 X3 X4 X5 X6 X7 X8 X9 X10
    ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v12 v13 v14 v15 v16 v19 v22 v29 v30 v49 v52 v57 v59 k acc)
        (fun _ => held c arg2 arg3 arg4 arg5 arg6 arg7 arg8 arg9 arg10 arg11 arg12 arg13 arg14 arg15 arg16 arg17 X2 X3 X4 X5 X6 X7 X8 X9 X10) := by
  have hk : k.val < 3 := Nat.lt_of_lt_of_le k.isLt k0_t1_abs.2.1
  unfold k0_t1_body
  iintro ⟨H2, H3, H4, H5, H6, H7, H8, H9, H10, ⟨%f11, H11⟩, ⟨%f12, H12⟩, ⟨%f13, H13⟩, ⟨%f14, H14⟩, ⟨%f15, H15⟩, ⟨%f16, H16⟩, ⟨%f17, H17⟩⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

set_option warn.classDefReducibility false in
/-- The main loop runs by this invariant: the operands as they were, all else at some contents. -/
@[sl_loop] def chunks (c : Dev nD) (E : Set ℕ) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .f32) (harg5 : arg5.IsWhole) (arg6 : Memref sig .tc .vmem S4x128 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x4096x128 .bf16) (harg11 : arg11.IsWhole) (arg12 : Memref sig .tc .vmem S3x1032x128 .f32) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .f32) (harg15 : arg15.IsWhole) (arg16 : Memref sig .tc .vmem S32x128x128 .f32) (harg16 : arg16.IsWhole) (arg17 : Memref sig .tc .vmem S32x128 .f32) (harg17 : arg17.IsWhole) (v6 : FVec F S1x128 .f32) (v12 : FVec F S1x128 .f32) (v13 : IVec S128x128 32) (v14 : IVec S128x128 32) (v15 : IVec S128x128 1) (v16 : IVec S128x128 1) (v19 : FVec F S128x128 .f32) (v22 : FVec F S128x128 .bf16) (v29 : FVec F S128x128 .f32) (v30 : FVec F S128x128 .bf16) (v49 : FVec F S128x256 .bf16) (v52 : IVec S1x128 1) (v57 : FVec F S1x128 .f32) (v59 : FVec F S1x128 .f32)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (init : FVec F S128x128 .f32) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v12 v13 v14 v15 v16 v19 v22 v29 v30 v49 v52 v57 v59 init where
  inv _ _ := held c arg2 arg3 arg4 arg5 arg6 arg7 arg8 arg9 arg10 arg11 arg12 arg13 arg14 arg15 arg16 arg17 X2 X3 X4 X5 X6 X7 X8 X9 X10
  step k acc := trip c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v6 v12 v13 v14 v15 v16 v19 v22 v29 v30 v49 v52 v57 v59 X2 X3 X4 X5 X6 X7 X8 X9 X10 k acc

end Cert.Kernel7Ideal.Body

end
-- ==== Proof.DeltaFrameIdeal.lean ====
module

public import proofs.«01_k».proof.Proof.DeltaTripIdeal
public import proofs.«01_k».proof.Proof.Gen.Kernel7Ideal.Frame

/-! The delta mixer runs to its end and leaves its arguments as they were. The idealized call. -/

@[expose] public section

set_option maxRecDepth 65536

noncomputable section

namespace Cert.Kernel7Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose RDat)
open Cert.Kernel7Ideal Cert.Kernel7Ideal.Gen

variable {F : FTy → Type} [FloatOps F]

local notation "𝕄" => MT nD τ sig Unit (Elt F) ℕ (UR sig nD τ) ℕ

set_option maxHeartbeats 16000000 in
/-- The body at any step, from any contents of the output block and the scratch. -/
theorem run (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .f32) (harg5 : arg5.IsWhole) (arg6 : Memref sig .tc .vmem S4x128 .f32) (harg6 : arg6.IsWhole) (arg7 : Memref sig .tc .vmem S4x128 .f32) (harg7 : arg7.IsWhole) (arg8 : Memref sig .tc .vmem S4x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x4096x128 .bf16) (harg11 : arg11.IsWhole) (arg12 : Memref sig .tc .vmem S3x1032x128 .f32) (harg12 : arg12.IsWhole) (arg13 : Memref sig .tc .vmem S32x128x128 .bf16) (harg13 : arg13.IsWhole) (arg14 : Memref sig .tc .vmem S32x128x128 .bf16) (harg14 : arg14.IsWhole) (arg15 : Memref sig .tc .vmem S32x128x128 .f32) (harg15 : arg15.IsWhole) (arg16 : Memref sig .tc .vmem S32x128x128 .f32) (harg16 : arg16.IsWhole) (arg17 : Memref sig .tc .vmem S32x128 .f32) (harg17 : arg17.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (Q : PUnit → sProp 𝕄) :
    iprop(pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14 ∗ pt c arg15 X15 ∗ pt c arg16 X16 ∗ pt c arg17 X17 ∗ (held c arg2 arg3 arg4 arg5 arg6 arg7 arg8 arg9 arg10 arg11 arg12 arg13 arg14 arg15 arg16 arg17 X2 X3 X4 X5 X6 X7 X8 X9 X10 -∗ Q PUnit.unit))
    ⊢ wp frame (wpE (defs₀ (F := F)) Variants.none c none) Set.univ (cc0_delta_mixer i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) Q := by
  iintro ⟨H2, H3, H4, H5, H6, H7, H8, H9, H10, H11, H12, H13, H14, H15, H16, H17, Hk⟩
  simp only [cc0_delta_mixer_eq_skeleton]
  unfold cc0_delta_mixer_skel
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

variable (m : (ℓ : Loc nD τ sig) → Buf (Elt F) ℓ) (ρ : Dev nD → PrngReg)

/-- What each window holds after the body: the inputs their blocks, the output left unnamed. Windows of one
    array are dealt a share of it each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Dat.unnamed (cfg := cfg0) 9 t
  Φ _ := Pipeline.ΦA spec0 c
  q w := Pipeline.shareOf spec0 w
  owed _ := 0

/-- The output window is the one left unnamed. -/
def unnamed : Fin cfg0.W → Bool
  | ⟨9, _⟩ => true
  | _ => false

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The scratch buffers, each whole at some contents. -/
theorem scratch_eq (c : Dev nD) : (Pipeline.scopedRest (Ix := Unit) (Name := ℕ) (U := UR sig nD τ) (Lvl := ℕ) (Val := Elt F) spec0 c : sProp 𝕄)
    = iprop((∃ f, pt (F := F) c (Memref.whole cc0_scratch0) f) ∗ (∃ f, pt (F := F) c (Memref.whole cc0_scratch1) f) ∗ (∃ f, pt (F := F) c (Memref.whole cc0_scratch2) f) ∗ (∃ f, pt (F := F) c (Memref.whole cc0_scratch3) f) ∗ (∃ f, pt (F := F) c (Memref.whole cc0_scratch4) f) ∗ (∃ f, pt (F := F) c (Memref.whole cc0_scratch5) f)) := by
  rw [scopedRest0_eq]
  have e0 : (Memref.whole cc0_scratch0).view.set = Finset.univ := View.set_whole cc0_scratch0
  have e1 : (Memref.whole cc0_scratch1).view.set = Finset.univ := View.set_whole cc0_scratch1
  have e2 : (Memref.whole cc0_scratch2).view.set = Finset.univ := View.set_whole cc0_scratch2
  have e3 : (Memref.whole cc0_scratch3).view.set = Finset.univ := View.set_whole cc0_scratch3
  have e4 : (Memref.whole cc0_scratch4).view.set = Finset.univ := View.set_whole cc0_scratch4
  have e5 : (Memref.whole cc0_scratch5).view.set = Finset.univ := View.set_whole cc0_scratch5
  unfold pt
  rw [e0, e1, e2, e3, e4, e5]

/-- What the body is called with at step `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ X, owns (c : Thread nD τ) (win0_9.stage (cfg0.slots t 9)) fullShare X))

/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (∃ X, owns (c : Thread nD τ) (win0_9.stage (cfg0.slots t 9)) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after_0, after_1, after_2, after_3, after_4, after_5, after_6, after_7, after_8]
  unfold Pipeline.ΦA owns
  rw [scratch_eq]
  iintro ⟨⟨⟨⟨%s0, S0⟩, ⟨%s1, S1⟩, ⟨%s2, S2⟩, ⟨%s3, S3⟩, ⟨%s4, S4⟩, ⟨%s5, S5⟩⟩, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩⟩
  iapply (run c (grid0.coords t) _ _ _ _ _ _ _ _ _ _ _ _ _ _ _ _ _ _ _ _ _ _ _ _ _ _ _ _ _ _ _ _ f0 f1 f2 f3 f4 f5 f6 f7 f8 f9 s0 s1 s2 s3 s4 s5 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, S0, S1, S2, S3, S4, S5⟩
  isplitl [S0 S1 S2 S3 S4 S5 Hr]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hr
  isplitl [Ho]; · iexact Ho
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  icases H9 with ⟨%g, H9⟩
  iexists _; iexists g; isplitr; · ipureintro; rfl
  iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unnamed := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ)
    (fun r => (RDat.FramePost cfg0 (fun c => (dats m 0 c).toRForget unnamed) (V m)) r ∧ r.2.sem = fun _ => 0) :=
  Pipeline.θ_run_frame_forget_shared (Q' := _) cfgs (dats m) (0 : Fin 1) launch₀0 defs₀ Variants.none unnamed m ρ main
    (hbody := fun c => (body_obligation m c).loose) (hq := fun _ _ _ => rfl)
    (howed := fun _ _ => rfl) (V := V m) (hmain := hmain m Variants.none) (hA := A_eq m) (hΦ := fun _ _ => rfl)

/-- The frame: the kernel ends, its arguments as they were, every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1.arr_in c 2 rfl).trans (V_main_arg0 m c), (h.1.arr_in c 3 rfl).trans (V_main_arg1 m c),
    (h.1.arr_in c 6 rfl).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩) (run_main_quiescent m ρ)

end Cert.Kernel7Ideal.Body

end
-- ==== Proof.lean ====
/- The claims, assembled from the modules that prove them. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Pre_finite_queries_and_keys
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal
public import proofs.«01_k».proof.Proof.Gen.Pre_finite_queries_and_keys5
public import proofs.«01_k».proof.Proof.OutprojClaim
public import proofs.«01_k».proof.Proof.InprojZero
public import proofs.«01_k».proof.Proof.InprojOne
public import proofs.«01_k».proof.Proof.OutprojZeroClaim
public import proofs.«01_k».proof.Proof.Memkv
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7.Loops
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Loops
public import proofs.«01_k».proof.Proof.MobaFrame
public import proofs.«01_k».proof.Proof.MobaFrameIdeal
public import proofs.«01_k».proof.Proof.DeltaFrame
public import proofs.«01_k».proof.Proof.DeltaFrameIdeal
public import Idealize.ShloMosaic.Adequacy
public import Idealize.ShloMosaic.Init

@[expose] public section

noncomputable section

namespace Cert.Proof

open Cert

/-- The attention kernel's mask constant is the one named, and minus infinity is its name's value. -/
theorem mask_is_named : Cert.preserves_Kernel_KernelIdeal :=
  Idealize.ShloMosaic.IdealRules.named_const.statement _ _ _ _ _ rfl

/-- No constant of the delta mixer is renamed. -/
theorem delta_is_kept : Cert.preserves_Kernel7_Kernel7Ideal := trivial

theorem claim : Cert.Claim :=
  ⟨Cert.Kernel.Gen.facts, Cert.KernelIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts, Cert.Pre_finite_queries_and_keys.Gen.facts,
    Cert.Pre_finite_queries_and_keys5.Gen.facts,
    fun m ρ _ => Cert.Kernel.Body.frame m ρ, fun m ρ _ => Cert.KernelIdeal.Body.frame m ρ,
    Outproj.frame_kernel, Outproj.frame_ideal, Outproj.frame_ideal_pre, Outproj.frame_reference, Outproj.frame_reference_pre,
    InprojZero.frame_kernel, InprojZero.frame_ideal, InprojZero.frame_reference,
    InprojOne.frame_kernel, InprojOne.frame_ideal, InprojOne.frame_reference,
    OutprojZero.frame_kernel, OutprojZero.frame_ideal, OutprojZero.frame_ideal_pre, OutprojZero.frame_reference, OutprojZero.frame_reference_pre,
    Memkv.frame_kernel, Memkv.frame_ideal, Memkv.frame_reference,
    fun m ρ _ => Cert.Kernel7.Body.frame m ρ, fun m ρ _ => Cert.Kernel7Ideal.Body.frame m ρ,
    mask_is_named, Outproj.preserved, Outproj.algebraic,
    InprojZero.preserved, InprojZero.algebraic,
    InprojOne.preserved, InprojOne.algebraic,
    OutprojZero.preserved, OutprojZero.algebraic,
    Memkv.preserved, Memkv.algebraic,
    delta_is_kept⟩

end Cert.Proof

end
